-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hReference : Cert.Reference.Facts) (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== Kernel.lean ====
abbrev S1x2048x4096 : Shape := ⟨3, ![1, 2048, 4096]⟩
abbrev S1024x4096 : Shape := ⟨2, ![1024, 4096]⟩
abbrev S1024 : Shape := ⟨1, ![1024]⟩
abbrev S1x1024x64 : Shape := ⟨3, ![1, 1024, 64]⟩
abbrev S2048x4096 : Shape := ⟨2, ![2048, 4096]⟩
abbrev S1024x64 : Shape := ⟨2, ![1024, 64]⟩
abbrev S512x64 : Shape := ⟨2, ![512, 64]⟩
abbrev S_ : Shape := ⟨0, ![]⟩
abbrev S512x128 : Shape := ⟨2, ![512, 128]⟩
abbrev S1024x128 : Shape := ⟨2, ![1024, 128]⟩
abbrev S1x1024 : Shape := ⟨2, ![1, 1024]⟩
abbrev S2048x2 : Shape := ⟨2, ![2048, 2]⟩
abbrev S256x4096 : Shape := ⟨2, ![256, 4096]⟩
abbrev S256x2 : Shape := ⟨2, ![256, 2]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩
abbrev S4096 : Shape := ⟨1, ![4096]⟩
abbrev S2048x128 : Shape := ⟨2, ![2048, 128]⟩
abbrev S128 : Shape := ⟨1, ![128]⟩
abbrev S128x128 : Shape := ⟨2, ![128, 128]⟩
abbrev S64x128 : Shape := ⟨2, ![64, 128]⟩
abbrev S1x16 : Shape := ⟨2, ![1, 16]⟩
abbrev S16 : Shape := ⟨1, ![16]⟩
abbrev S2x512 : Shape := ⟨2, ![2, 512]⟩
abbrev S1x2048x128 : Shape := ⟨3, ![1, 2048, 128]⟩

abbrev nBuf : Table → Nat
  | .hbm => 22
  | .local .tc .vmem => 7
  | .local .scVector .vmem => 3
  | _ => 0

abbrev bufTy : (tb : Table) → Fin (nBuf tb) → BufTy
  | .hbm, ⟨0, _⟩ => ⟨S1x2048x4096, .f32⟩
  | .hbm, ⟨1, _⟩ => ⟨S1024x4096, .f32⟩
  | .hbm, ⟨2, _⟩ => ⟨S1024, .f32⟩
  | .hbm, ⟨3, _⟩ => ⟨S1x1024x64, .f32⟩
  | .hbm, ⟨4, _⟩ => ⟨S2048x4096, .f32⟩
  | .hbm, ⟨5, _⟩ => ⟨S1024x64, .f32⟩
  | .hbm, ⟨6, _⟩ => ⟨S512x64, .f32⟩
  | .hbm, ⟨7, _⟩ => ⟨S_, .i32⟩
  | .hbm, ⟨8, _⟩ => ⟨S_, .f32⟩
  | .hbm, ⟨9, _⟩ => ⟨S512x128, .f32⟩
  | .hbm, ⟨10, _⟩ => ⟨S512x64, .f32⟩
  | .hbm, ⟨11, _⟩ => ⟨S_, .i32⟩
  | .hbm, ⟨12, _⟩ => ⟨S_, .f32⟩
  | .hbm, ⟨13, _⟩ => ⟨S512x128, .f32⟩
  | .hbm, ⟨14, _⟩ => ⟨S1024x128, .f32⟩
  | .hbm, ⟨15, _⟩ => ⟨S1x1024, .f32⟩
  | .hbm, ⟨16, _⟩ => ⟨S2048x2, .i32⟩
  | .hbm, ⟨17, _⟩ => ⟨S1x1024, .f32⟩
  | .hbm, ⟨18, _⟩ => ⟨S4096, .i32⟩
  | .hbm, ⟨19, _⟩ => ⟨S2048x128, .f32⟩
  | .hbm, ⟨20, _⟩ => ⟨S2x512, .f32⟩
  | .hbm, ⟨21, _⟩ => ⟨S1x2048x128, .f32⟩
  | .local .tc .vmem, ⟨0, _⟩ => ⟨S256x4096, .f32⟩
  | .local .tc .vmem, ⟨1, _⟩ => ⟨S256x4096, .f32⟩
  | .local .tc .vmem, ⟨2, _⟩ => ⟨S1024x4096, .f32⟩
  | .local .tc .vmem, ⟨3, _⟩ => ⟨S1x1024, .f32⟩
  | .local .tc .vmem, ⟨4, _⟩ => ⟨S256x2, .i32⟩
  | .local .tc .vmem, ⟨5, _⟩ => ⟨S256x2, .i32⟩
  | .local .tc .vmem, ⟨6, _⟩ => ⟨S1x1024, .f32⟩
  | .local .scVector .vmem, ⟨0, _⟩ => ⟨S128, .i32⟩
  | .local .scVector .vmem, ⟨1, _⟩ => ⟨S128x128, .f32⟩
  | .local .scVector .vmem, ⟨2, _⟩ => ⟨S64x128, .f32⟩
  | _, _ => ⟨S1x2048x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v6_scv : Ref sig .scVector := ⟨.hbm, 14, rfl⟩
abbrev main_v9_scv : Ref sig .scVector := ⟨.hbm, 18, rfl⟩
abbrev main_v10_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_19 : BitVec 32 := 0#32
  let v56 : BitVec 1 := Scalar.cmpi .eq arg0 c0_i32_19
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32_21 : BitVec 32 := 0#32
  let v59 : BitVec 1 := Scalar.cmpi .ne arg0 c0_i32_21
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let c2_i32_0 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.muli c2_i32_0 v2
  ![v3.toNat]
@[reducible] def k1_t1_loop : Scf.Loop 32 :=
  let c0_i32_5 : BitVec 32 := 0#32
  let c64_i32_6 : BitVec 32 := 64#32
  let v6 : BitVec 32 := Scalar.addi c0_i32_5 c64_i32_6
  let c1_i32 : BitVec 32 := 1#32
  ⟨c0_i32_5, v6, c1_i32⟩
def k1_off2 (k1_t1 : Fin k1_t1_loop.trips) : Fin 2 → Nat :=
  let c2_i32_8 : BitVec 32 := 2#32
  let c0_i32_5 : BitVec 32 := 0#32
  let c1_i32 : BitVec 32 := 1#32
  let arg9 : BitVec 32 := Scf.iv c0_i32_5 c1_i32 k1_t1
  let v8 : BitVec 32 := Scalar.muli c2_i32_8 arg9
  let v9 : Index := Scalar.indexCast v8
  let c0 : Index := 0#32
  ![v9.toNat, 0]
def k1_off3 (k1_t1 : Fin k1_t1_loop.trips) : Fin 2 → Nat :=
  let c2_i32_9 : BitVec 32 := 2#32
  let c0_i32_5 : BitVec 32 := 0#32
  let c1_i32 : BitVec 32 := 1#32
  let arg9 : BitVec 32 := Scf.iv c0_i32_5 c1_i32 k1_t1
  let v12 : BitVec 32 := Scalar.muli c2_i32_9 arg9
  let c1_i32_10 : BitVec 32 := 1#32
  let v13 : BitVec 32 := Scalar.addi v12 c1_i32_10
  let v14 : Index := Scalar.indexCast v13
  let c0_11 : Index := 0#32
  ![v14.toNat, 0]
def k1_off4 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v18 : Index := Scalar.indexCast arg9
  let c0_12 : Index := 0#32
  ![v18.toNat, 0]
def k1_off5 (k1_t1 : Fin k1_t1_loop.trips) : Fin 2 → Nat :=
  let c2_i32_13 : BitVec 32 := 2#32
  let c0_i32_5 : BitVec 32 := 0#32
  let c1_i32 : BitVec 32 := 1#32
  let arg9 : BitVec 32 := Scf.iv c0_i32_5 c1_i32 k1_t1
  let v22 : BitVec 32 := Scalar.muli c2_i32_13 arg9
  let v23 : Index := Scalar.indexCast v22
  let c16 : Index := 16#32
  ![v23.toNat, 16]
def k1_off6 (k1_t1 : Fin k1_t1_loop.trips) : Fin 2 → Nat :=
  let c2_i32_14 : BitVec 32 := 2#32
  let c0_i32_5 : BitVec 32 := 0#32
  let c1_i32 : BitVec 32 := 1#32
  let arg9 : BitVec 32 := Scf.iv c0_i32_5 c1_i32 k1_t1
  let v26 : BitVec 32 := Scalar.muli c2_i32_14 arg9
  let c1_i32_15 : BitVec 32 := 1#32
  let v27 : BitVec 32 := Scalar.addi v26 c1_i32_15
  let v28 : Index := Scalar.indexCast v27
  let c16_16 : Index := 16#32
  ![v28.toNat, 16]
def k1_off7 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v32 : Index := Scalar.indexCast arg9
  let c16_17 : Index := 16#32
  ![v32.toNat, 16]
def k1_off8 (k1_t1 : Fin k1_t1_loop.trips) : Fin 2 → Nat :=
  let c2_i32_18 : BitVec 32 := 2#32
  let c0_i32_5 : BitVec 32 := 0#32
  let c1_i32 : BitVec 32 := 1#32
  let arg9 : BitVec 32 := Scf.iv c0_i32_5 c1_i32 k1_t1
  let v36 : BitVec 32 := Scalar.muli c2_i32_18 arg9
  let v37 : Index := Scalar.indexCast v36
  let c32 : Index := 32#32
  ![v37.toNat, 32]
def k1_off9 (k1_t1 : Fin k1_t1_loop.trips) : Fin 2 → Nat :=
  let c2_i32_19 : BitVec 32 := 2#32
  let c0_i32_5 : BitVec 32 := 0#32
  let c1_i32 : BitVec 32 := 1#32
  let arg9 : BitVec 32 := Scf.iv c0_i32_5 c1_i32 k1_t1
  let v40 : BitVec 32 := Scalar.muli c2_i32_19 arg9
  let c1_i32_20 : BitVec 32 := 1#32
  let v41 : BitVec 32 := Scalar.addi v40 c1_i32_20
  let v42 : Index := Scalar.indexCast v41
  let c32_21 : Index := 32#32
  ![v42.toNat, 32]
def k1_off10 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v46 : Index := Scalar.indexCast arg9
  let c32_22 : Index := 32#32
  ![v46.toNat, 32]
def k1_off11 (k1_t1 : Fin k1_t1_loop.trips) : Fin 2 → Nat :=
  let c2_i32_23 : BitVec 32 := 2#32
  let c0_i32_5 : BitVec 32 := 0#32
  let c1_i32 : BitVec 32 := 1#32
  let arg9 : BitVec 32 := Scf.iv c0_i32_5 c1_i32 k1_t1
  let v50 : BitVec 32 := Scalar.muli c2_i32_23 arg9
  let v51 : Index := Scalar.indexCast v50
  let c48 : Index := 48#32
  ![v51.toNat, 48]
def k1_off12 (k1_t1 : Fin k1_t1_loop.trips) : Fin 2 → Nat :=
  let c2_i32_24 : BitVec 32 := 2#32
  let c0_i32_5 : BitVec 32 := 0#32
  let c1_i32 : BitVec 32 := 1#32
  let arg9 : BitVec 32 := Scf.iv c0_i32_5 c1_i32 k1_t1
  let v54 : BitVec 32 := Scalar.muli c2_i32_24 arg9
  let c1_i32_25 : BitVec 32 := 1#32
  let v55 : BitVec 32 := Scalar.addi v54 c1_i32_25
  let v56 : Index := Scalar.indexCast v55
  let c48_26 : Index := 48#32
  ![v56.toNat, 48]
def k1_off13 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v60 : Index := Scalar.indexCast arg9
  let c48_27 : Index := 48#32
  ![v60.toNat, 48]
def k1_off14 (k1_t1 : Fin k1_t1_loop.trips) : Fin 2 → Nat :=
  let c2_i32_28 : BitVec 32 := 2#32
  let c0_i32_5 : BitVec 32 := 0#32
  let c1_i32 : BitVec 32 := 1#32
  let arg9 : BitVec 32 := Scf.iv c0_i32_5 c1_i32 k1_t1
  let v64 : BitVec 32 := Scalar.muli c2_i32_28 arg9
  let v65 : Index := Scalar.indexCast v64
  let c64 : Index := 64#32
  ![v65.toNat, 64]
def k1_off15 (k1_t1 : Fin k1_t1_loop.trips) : Fin 2 → Nat :=
  let c2_i32_29 : BitVec 32 := 2#32
  let c0_i32_5 : BitVec 32 := 0#32
  let c1_i32 : BitVec 32 := 1#32
  let arg9 : BitVec 32 := Scf.iv c0_i32_5 c1_i32 k1_t1
  let v68 : BitVec 32 := Scalar.muli c2_i32_29 arg9
  let c1_i32_30 : BitVec 32 := 1#32
  let v69 : BitVec 32 := Scalar.addi v68 c1_i32_30
  let v70 : Index := Scalar.indexCast v69
  let c64_31 : Index := 64#32
  ![v70.toNat, 64]
def k1_off16 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v74 : Index := Scalar.indexCast arg9
  let c64_32 : Index := 64#32
  ![v74.toNat, 64]
def k1_off17 (k1_t1 : Fin k1_t1_loop.trips) : Fin 2 → Nat :=
  let c2_i32_33 : BitVec 32 := 2#32
  let c0_i32_5 : BitVec 32 := 0#32
  let c1_i32 : BitVec 32 := 1#32
  let arg9 : BitVec 32 := Scf.iv c0_i32_5 c1_i32 k1_t1
  let v78 : BitVec 32 := Scalar.muli c2_i32_33 arg9
  let v79 : Index := Scalar.indexCast v78
  let c80 : Index := 80#32
  ![v79.toNat, 80]
def k1_off18 (k1_t1 : Fin k1_t1_loop.trips) : Fin 2 → Nat :=
  let c2_i32_34 : BitVec 32 := 2#32
  let c0_i32_5 : BitVec 32 := 0#32
  let c1_i32 : BitVec 32 := 1#32
  let arg9 : BitVec 32 := Scf.iv c0_i32_5 c1_i32 k1_t1
  let v82 : BitVec 32 := Scalar.muli c2_i32_34 arg9
  let c1_i32_35 : BitVec 32 := 1#32
  let v83 : BitVec 32 := Scalar.addi v82 c1_i32_35
  let v84 : Index := Scalar.indexCast v83
  let c80_36 : Index := 80#32
  ![v84.toNat, 80]
def k1_off19 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v88 : Index := Scalar.indexCast arg9
  let c80_37 : Index := 80#32
  ![v88.toNat, 80]
def k1_off20 (k1_t1 : Fin k1_t1_loop.trips) : Fin 2 → Nat :=
  let c2_i32_38 : BitVec 32 := 2#32
  let c0_i32_5 : BitVec 32 := 0#32
  let c1_i32 : BitVec 32 := 1#32
  let arg9 : BitVec 32 := Scf.iv c0_i32_5 c1_i32 k1_t1
  let v92 : BitVec 32 := Scalar.muli c2_i32_38 arg9
  let v93 : Index := Scalar.indexCast v92
  let c96 : Index := 96#32
  ![v93.toNat, 96]
def k1_off21 (k1_t1 : Fin k1_t1_loop.trips) : Fin 2 → Nat :=
  let c2_i32_39 : BitVec 32 := 2#32
  let c0_i32_5 : BitVec 32 := 0#32
  let c1_i32 : BitVec 32 := 1#32
  let arg9 : BitVec 32 := Scf.iv c0_i32_5 c1_i32 k1_t1
  let v96 : BitVec 32 := Scalar.muli c2_i32_39 arg9
  let c1_i32_40 : BitVec 32 := 1#32
  let v97 : BitVec 32 := Scalar.addi v96 c1_i32_40
  let v98 : Index := Scalar.indexCast v97
  let c96_41 : Index := 96#32
  ![v98.toNat, 96]
def k1_off22 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v102 : Index := Scalar.indexCast arg9
  let c96_42 : Index := 96#32
  ![v102.toNat, 96]
def k1_off23 (k1_t1 : Fin k1_t1_loop.trips) : Fin 2 → Nat :=
  let c2_i32_43 : BitVec 32 := 2#32
  let c0_i32_5 : BitVec 32 := 0#32
  let c1_i32 : BitVec 32 := 1#32
  let arg9 : BitVec 32 := Scf.iv c0_i32_5 c1_i32 k1_t1
  let v106 : BitVec 32 := Scalar.muli c2_i32_43 arg9
  let v107 : Index := Scalar.indexCast v106
  let c112 : Index := 112#32
  ![v107.toNat, 112]
def k1_off24 (k1_t1 : Fin k1_t1_loop.trips) : Fin 2 → Nat :=
  let c2_i32_44 : BitVec 32 := 2#32
  let c0_i32_5 : BitVec 32 := 0#32
  let c1_i32 : BitVec 32 := 1#32
  let arg9 : BitVec 32 := Scf.iv c0_i32_5 c1_i32 k1_t1
  let v110 : BitVec 32 := Scalar.muli c2_i32_44 arg9
  let c1_i32_45 : BitVec 32 := 1#32
  let v111 : BitVec 32 := Scalar.addi v110 c1_i32_45
  let v112 : Index := Scalar.indexCast v111
  let c112_46 : Index := 112#32
  ![v112.toNat, 112]
def k1_off25 (k1_t1 : Fin k1_t1_loop.trips) : Fin 2 → Nat :=
  let c0_i32_5 : BitVec 32 := 0#32
  let c1_i32 : BitVec 32 := 1#32
  let arg9 : BitVec 32 := Scf.iv c0_i32_5 c1_i32 k1_t1
  let v116 : Index := Scalar.indexCast arg9
  let c112_47 : Index := 112#32
  ![v116.toNat, 112]
def k1_off26 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_8_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1x2048x4096 : Shape := ⟨3, ![1, 2048, 4096]⟩
abbrev S1024x4096 : Shape := ⟨2, ![1024, 4096]⟩
abbrev S1024 : Shape := ⟨1, ![1024]⟩
abbrev S1x1024x64 : Shape := ⟨3, ![1, 1024, 64]⟩
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S2048x2x512 : Shape := ⟨3, ![2048, 2, 512]⟩
abbrev S2048x2 : Shape := ⟨2, ![2048, 2]⟩
abbrev S2048x2x1 : Shape := ⟨3, ![2048, 2, 1]⟩
abbrev S2x512 : Shape := ⟨2, ![2, 512]⟩
abbrev S2048x1024x1 : Shape := ⟨3, ![2048, 1024, 1]⟩
abbrev S2048x1024x64 : Shape := ⟨3, ![2048, 1024, 64]⟩
abbrev S2048x2x512x64 : Shape := ⟨4, ![2048, 2, 512, 64]⟩
abbrev S2048x2x64 : Shape := ⟨3, ![2048, 2, 64]⟩
abbrev S1x2048x128 : Shape := ⟨3, ![1, 2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1024x4096, .f32⟩
  | .hbm, ⟨2, _⟩ => ⟨S1024, .f32⟩
  | .hbm, ⟨3, _⟩ => ⟨S1x1024x64, .f32⟩
  | .hbm, ⟨4, _⟩ => ⟨S2048x4096, .f32⟩
  | .hbm, ⟨5, _⟩ => ⟨S4096x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S4096x512, .f32⟩
  | .hbm, ⟨11, _⟩ => ⟨S4096x512, .i32⟩
  | .hbm, ⟨12, _⟩ => ⟨S_, .f32⟩
  | .hbm, ⟨13, _⟩ => ⟨S_, .i32⟩
  | .hbm, ⟨14, _⟩ => ⟨S4096, .f32⟩
  | .hbm, ⟨15, _⟩ => ⟨S4096, .i32⟩
  | .hbm, ⟨16, _⟩ => ⟨S4096x1, .i32⟩
  | .hbm, ⟨17, _⟩ => ⟨S1x512, .i32⟩
  | .hbm, ⟨18, _⟩ => ⟨S4096x512, .i32⟩
  | .hbm, ⟨19, _⟩ => ⟨S4096x512, .i32⟩
  | .hbm, ⟨20, _⟩ => ⟨S4096x512, .i1⟩
  | .hbm, ⟨21, _⟩ => ⟨S4096x512, .f32⟩
  | .hbm, ⟨22, _⟩ => ⟨S2048x2x512, .f32⟩
  | .hbm, ⟨23, _⟩ => ⟨S2048x2x512, .f32⟩
  | .hbm, ⟨24, _⟩ => ⟨S_, .f32⟩
  | .hbm, ⟨25, _⟩ => ⟨S2048x2, .f32⟩
  | .hbm, ⟨26, _⟩ => ⟨S_, .f32⟩
  | .hbm, ⟨27, _⟩ => ⟨S2048x2, .f32⟩
  | .hbm, ⟨28, _⟩ => ⟨S2048x2, .f32⟩
  | .hbm, ⟨29, _⟩ => ⟨S2048x2x1, .f32⟩
  | .hbm, ⟨30, _⟩ => ⟨S2048x2x512, .f32⟩
  | .hbm, ⟨31, _⟩ => ⟨S2048x2x512, .f32⟩
  | .hbm, ⟨32, _⟩ => ⟨S2048x2x512, .f32⟩
  | .hbm, ⟨33, _⟩ => ⟨S_, .f32⟩
  | .hbm, ⟨34, _⟩ => ⟨S2048x2, .f32⟩
  | .hbm, ⟨35, _⟩ => ⟨S2048x2x1, .f32⟩
  | .hbm, ⟨36, _⟩ => ⟨S2048x2x512, .f32⟩
  | .hbm, ⟨37, _⟩ => ⟨S2048x2x512, .f32⟩
  | .hbm, ⟨38, _⟩ => ⟨S_, .f32⟩
  | .hbm, ⟨39, _⟩ => ⟨S2x512, .f32⟩
  | .hbm, ⟨40, _⟩ => ⟨S_, .f32⟩
  | .hbm, ⟨41, _⟩ => ⟨S2x512, .f32⟩
  | .hbm, ⟨42, _⟩ => ⟨S2x512, .f32⟩
  | .hbm, ⟨43, _⟩ => ⟨S2048x1024, .f32⟩
  | .hbm, ⟨44, _⟩ => ⟨S2048x1024x1, .f32⟩
  | .hbm, ⟨45, _⟩ => ⟨S2048x1024x64, .f32⟩
  | .hbm, ⟨46, _⟩ => ⟨S2048x1024x64, .f32⟩
  | .hbm, ⟨47, _⟩ => ⟨S2048x1024x64, .f32⟩
  | .hbm, ⟨48, _⟩ => ⟨S2048x2x512x64, .f32⟩
  | .hbm, ⟨49, _⟩ => ⟨S_, .f32⟩
  | .hbm, ⟨50, _⟩ => ⟨S2048x2x64, .f32⟩
  | .hbm, ⟨51, _⟩ => ⟨S1x2048x128, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.Setup.lean ====
/-
  The launch's set-up for the program: its names as the launch theorem takes them, the ghost state, the buffers of the
  SparseCore call, and what the call's handshakes carry.

  The SparseCore call runs on 32 tiles, tile `s` of SparseCore `c` being worker `2 s + c`. A worker takes 128 entries of
  the index list, a read share of the whole table, and 64 rows of the output; it brings back the same entries, its
  share, and its rows at the values `gOut`: row `r` is the sum of the two table rows named by entries `2 r` and `2 r + 1`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the pipeline's transfers, the tiles' own transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb : UEmb UU (MT nD τ sig (HIx 1) (Elt F) ℕ UU ℕ)).toEmb

instance : (EP (F := F)).LandsIn (upEmb : UEmb _ 𝕄) := by unfold EP; infer_instance

/-! ## The buffers of the SparseCore call -/

abbrev tLoc (d : Dev nD) : Loc nD τ sig := (SparseCore.T d).loc main_v6
abbrev iLoc (d : Dev nD) : Loc nD τ sig := (SparseCore.T d).loc main_v9
abbrev oLoc (d : Dev nD) : Loc nD τ sig := (SparseCore.T d).loc main_v10

local notation "tV" => (Memref.whole Cert.KernelIdeal.main_v6_scv : Memref Cert.KernelIdeal.sig Kind.scVector Space.hbm Cert.KernelIdeal.S1024x128 EltTy.f32)
local notation "iV" => (Memref.whole Cert.KernelIdeal.main_v9_scv : Memref Cert.KernelIdeal.sig Kind.scVector Space.hbm Cert.KernelIdeal.S4096 EltTy.i32)
local notation "oV" => (Memref.whole Cert.KernelIdeal.main_v10_scv : Memref Cert.KernelIdeal.sig Kind.scVector Space.hbm Cert.KernelIdeal.S2048x128 EltTy.f32)

theorem idiv : 32 ∣ S4096.size 0 := ⟨128, rfl⟩
theorem odiv : 32 ∣ S2048x128.size 0 := ⟨64, rfl⟩
abbrev irow (w : Fin 32) : Rect S4096 := Rect.part (s := S4096) (a₀ := 0) idiv w
abbrev orow (w : Fin 32) : Rect S2048x128 := Rect.part (s := S2048x128) (a₀ := 0) odiv w
abbrev iRowSet (w : Fin 32) : Finset S4096.Idx := ((iV).view.slice (irow w)).set
abbrev oRowSet (w : Fin 32) : Finset S2048x128.Idx := ((oV).view.slice (orow w)).set

/-- Worker `2 s + c`: tile `s` of SparseCore `c`. -/
def wid (c : Fin 2) (s : Fin 16) : Fin 32 := ⟨2 * s.val + c.val, by omega⟩

/-- The workers are the pairs of a SparseCore and a tile. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_) <;> simp only [wid] <;> omega
  right_inv w := Fin.ext (by simp only [wid]; omega)

/-- Worker `w`'s share of the table. -/
abbrev tq (w : Fin 32) : PosShare TreeShare := pieceOf fullShare 32 (by decide) w

/-! ## The output's values -/

/-- Row `v` of the table, in range by clamping (every index met is in range). -/
def rowAt (v : BitVec 32) : Fin 1024 := ⟨v.toNat % 1024, Nat.mod_lt _ (by decide)⟩

/-- Row `r` of the output: the sum of the table's rows that entries `2 r` and `2 r + 1` of the index list name. -/
def gOut [FloatOps F] (Tb : S1024x128.Idx → F .f32) (I : S4096.Idx → BitVec 32) : S2048x128.Idx → F .f32 := fun j =>
  FloatOps.addf
    (Tb fun | 0 => rowAt (I fun | 0 => ⟨2 * (j 0).val, by have h : (j 0).val < 2048 := (j 0).isLt; show _ < 4096; omega⟩) | 1 => j 1)
    (Tb fun | 0 => rowAt (I fun | 0 => ⟨2 * (j 0).val + 1, by have h : (j 0).val < 2048 := (j 0).isLt; show _ < 4096; omega⟩) | 1 => j 1)

/-! ## What the handshakes carry -/

variable (m : (ℓ : Loc nD τ sig) → Buf (Elt F) ℓ)
variable (Tb : (d : Dev nD) → Buf (Elt F) (tLoc d)) (I : (d : Dev nD) → Buf (Elt F) (iLoc d))

abbrev iRowPts (d : Dev nD) (w : Fin 32) : sProp 𝕄 := iLoc d ↦[iRowSet w]{fullShare} I d
abbrev tShPts (d : Dev nD) (w : Fin 32) : sProp 𝕄 := tLoc d ↦{tq w} Tb d
abbrev oRowPts (d : Dev nD) (w : Fin 32) (f : Buf (Elt F) (oLoc d)) : sProp 𝕄 := oLoc d ↦[oRowSet w]{fullShare} f

/-- What worker `w` is handed, -/
abbrev wIn (d : Dev nD) (w : Fin 32) : sProp 𝕄 := iprop(iRowPts I d w ∗ tShPts Tb d w ∗ oRowPts d w (m (oLoc d)))
/-- and what it brings back. -/
abbrev wOut [FloatOps F] (d : Dev nD) (w : Fin 32) : sProp 𝕄 := iprop(iRowPts I d w ∗ tShPts Tb d w ∗ oRowPts d w (gOut (Tb d) (I d)))

variable [FloatOps F]

/-- The one call's payloads: a SparseCore takes its sixteen workers' parts, each worker its own. -/
def P : (K (F := F)).Pay (nD := nD) (Val := Elt F) (Name := ℕ) (U := UU) where
  st := fun q d c => match q with | 0 => bigSep Finset.univ fun s : Fin 16 => wIn m Tb I d (wid (Fin.cast nCore_zero c) s)
  dn := fun q d c => match q with | 0 => bigSep Finset.univ fun s : Fin 16 => wOut Tb I d (wid (Fin.cast nCore_zero c) s)
  go := fun q d c i => match q with | 0 => wIn m Tb I d (wid (Fin.cast nCore_zero c) (Fin.cast nSub_zero i))
  td := fun q d c i => match q with | 0 => wOut Tb I d (wid (Fin.cast nCore_zero c) (Fin.cast nSub_zero i))
  x := fun _ _ => iprop(emp)

instance P_storable : (P (F := F) m Tb I).IsStorable where
  st q d c := match q with
    | 0 => (inferInstance : BI.Storable (upEmb : UEmb _ 𝕄) (bigSep Finset.univ fun s : Fin 16 => wIn m Tb I d (wid (Fin.cast nCore_zero c) s)))
  dn q d c := match q with
    | 0 => (inferInstance : BI.Storable (upEmb : UEmb _ 𝕄) (bigSep Finset.univ fun s : Fin 16 => wOut Tb I d (wid (Fin.cast nCore_zero c) s)))
  go q d c i := match q with
    | 0 => (inferInstance : BI.Storable (upEmb : UEmb _ 𝕄) (wIn m Tb I d (wid (Fin.cast nCore_zero c) (Fin.cast nSub_zero i))))
  td q d c i := match q with
    | 0 => (inferInstance : BI.Storable (upEmb : UEmb _ 𝕄) (wOut Tb I d (wid (Fin.cast nCore_zero c) (Fin.cast nSub_zero i))))

/-- What the proof asks of the index list: every entry names a row of the table. -/
def InRows : Prop := ∀ (d : Dev nD) (j : S4096.Idx), (I d j).toNat < 1024

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's part is its tiles' parts, going out and coming back. -/
theorem vecSplit : (K (F := F)).VecSplit' (P m Tb I) 0 := by
  intro d c
  show (bigSep Finset.univ fun s : Fin 16 => wIn m Tb I d (wid (Fin.cast nCore_zero c) s)) ⊢ |={Set.univ}=> iprop(
      (bigSep Finset.univ fun i : Fin ((K (F := F)).nSub 0) => wIn m Tb I d (wid (Fin.cast nCore_zero c) (Fin.cast nSub_zero i)))
      ∗ ((bigSep Finset.univ fun i : Fin ((K (F := F)).nSub 0) => wOut Tb I d (wid (Fin.cast nCore_zero c) (Fin.cast nSub_zero i)))
          -∗ bigSep Finset.univ fun s : Fin 16 => wOut Tb I d (wid (Fin.cast nCore_zero c) s)))
  rw [bigSep_tiles (F := F) (fun i => wIn m Tb I d (wid (Fin.cast nCore_zero c) i)),
    bigSep_tiles (F := F) (fun i => wOut Tb I d (wid (Fin.cast nCore_zero c) i))]
  iintro H; imodintro
  isplitl [H]; · iexact H
  iintro H; iexact H

end Cert.Proof.Run

end
-- ==== Proof.TcBody.lean ====
/-
  The body of the TensorCore kernel at one grid point, as triples over its five buffers: from a block of rows, the
  weights and the bias, the block's row numbers; and the block's share of the mean, stored at the first point and added
  at the others.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F]

/-! ## What one grid point computes -/

/-- The table rows' numbers of a block: column 0 the first half's, column 1 the second half's. -/
def idxOf (X : S256x4096.Idx → F .f32) (W : S1024x4096.Idx → F .f32) (B : S1x1024.Idx → F .f32) : S256x2.Idx → BitVec 32 :=
  k0_pay1 (k0_pay8 X W B) (k0_pay9 X W B) (k0_pay10 X W B)

/-- A block's share of the mean of the probabilities. -/
def incOf (X : S256x4096.Idx → F .f32) (W : S1024x4096.Idx → F .f32) (B : S1x1024.Idx → F .f32) : S1x1024.Idx → F .f32 :=
  k0_pay2 (k0_pay7 X W B) (k0_pay11 X W B) (Scalar.ofBits .f32 0x3A000000#32)

/-- The mean so far with a block's share added. -/
def addOf (X : S256x4096.Idx → F .f32) (W : S1024x4096.Idx → F .f32) (B : S1x1024.Idx → F .f32) (A : S1x1024.Idx → F .f32) :
    S1x1024.Idx → F .f32 :=
  k0_pay3 (k0_pay7 X W B) (k0_pay11 X W B) (Scalar.ofBits .f32 0x3A000000#32) A

/-- A whole-buffer store read back is what was stored. -/
theorem read_store {sp : Space} {s : Shape} {e : EltTy} (v : View sig .tc sp s e) (f : v.ty.Contents (Elt F)) {off : Fin s.rank → ℕ}
    (inb : ∀ a, off a + s.size a ≤ s.size a) (hz : off = fun _ => 0) (w : s.Idx → Elt F e) (L : List (View.Piece (Elt F) s e)) :
    v.read (Elt F) (v.writes (Elt F) f (⟨Rect.unit off s.size inb, w⟩ :: L)) = w := by
  subst hz
  funext x
  exact View.read_writes_cons_hit_of_coords v f (Rect.unit (fun _ => 0) s.size inb) w L x x fun a => by
    show (x a).val = 0 + 1 * (x a).val; omega

/-- A whole-buffer load reads the contents. -/
theorem readAt_load {sp : Space} {s : Shape} {e : EltTy} (v : View sig .tc sp s e) (f : v.ty.Contents (Elt F)) {off : Fin s.rank → ℕ}
    (inb : ∀ a, off a + s.size a ≤ s.size a) (hz : off = fun _ => 0) :
    v.readAt (Elt F) (Rect.unit off s.size inb).toLoadRect f = v.read (Elt F) f := by
  subst hz
  funext x
  refine (View.readAt_apply _ f x).trans (congrArg (v.read (Elt F) f) ?_)
  funext a
  apply Fin.ext
  show 0 + 1 * (x a).val = (x a).val
  omega

theorem zero_pair : (![0, 0] : Fin 2 → ℕ) = fun _ => 0 := funext fun a => by fin_cases a <;> rfl

section Body

variable (c : Dev nD) (i : grid0.Coords)
variable (a1 : Memref sig .tc .vmem S256x4096 .f32) (h1 : a1.IsWhole) (a2 : Memref sig .tc .vmem S1024x4096 .f32) (h2 : a2.IsWhole)
variable (a3 : Memref sig .tc .vmem S1x1024 .f32) (h3 : a3.IsWhole) (a4 : Memref sig .tc .vmem S256x2 .i32) (h4 : a4.IsWhole)
variable (a5 : Memref sig .tc .vmem S1x1024 .f32) (h5 : a5.IsWhole)
variable (X : S256x4096.Idx → F .f32) (W : S1024x4096.Idx → F .f32) (B : S1x1024.Idx → F .f32) (J : S256x2.Idx → BitVec 32) (A : S1x1024.Idx → F .f32)

/-- The first point: both results are stored. -/
theorem tcBody_first (hc1 : k0_cond1 i = 1#1) (hc2 : ¬ k0_cond2 i = 1#1) :
    iprop(owns c.tc a1 fullShare X ∗ owns c.tc a2 fullShare W ∗ owns c.tc a3 fullShare B ∗ owns c.tc a4 fullShare J ∗ owns c.tc a5 fullShare A)
      ⊢ (wp frame (wpE (defs₀ (F := F)) 𝒱₀ c.tc none) Set.univ (cc0__logits_kernel i a1 h1 a2 h2 a3 h3 a4 h4 a5 h5)
          fun _ => iprop(owns c.tc a1 fullShare X ∗ owns c.tc a2 fullShare W ∗ owns c.tc a3 fullShare B
            ∗ owns c.tc a4 fullShare (idxOf X W B) ∗ owns c.tc a5 fullShare (incOf X W B)) : sProp 𝕄) := by
  simp only [cc0__logits_kernel_eq_skeleton, k0_part1_eq_skeleton]
  unfold cc0__logits_kernel_skel
  simp only [dif_pos hc1, dif_neg hc2]
  unfold owns
  iintro ⟨⟨%f1, %e1, H1⟩, ⟨%f2, %e2, H2⟩, ⟨%f3, %e3, H3⟩, ⟨%f4, %e4, H4⟩, ⟨%f5, %e5, H5⟩⟩
  sl_exec
  sl_step
  isplitl [H1]; · iexists _; isplitr; swap; iexact H1; ipureintro; exact e1
  isplitl [H2]; · iexists _; isplitr; swap; iexact H2; ipureintro; exact e2
  isplitl [H3]; · iexists _; isplitr; swap; iexact H3; ipureintro; exact e3
  isplitl [H4]
  · iexists _; isplitr; swap; iexact H4; ipureintro
    refine (read_store a4.view f4 _ zero_pair _ []).trans ?_
    delta tcBody_first.sl.r_1 tcBody_first.sl.r_2 tcBody_first.sl.r_3
    dsimp only [idxOf]
    rw [readAt_load a1.view f1 _ zero_pair, readAt_load a2.view f2 _ zero_pair, readAt_load a3.view f3 _ zero_pair, e1, e2, e3]
  iexists _; isplitr; swap; iexact H5; ipureintro
  refine (read_store a5.view f5 _ zero_pair _ []).trans ?_
  delta tcBody_first.sl.r tcBody_first.sl.r_4 tcBody_first.sl.cst_13
  dsimp only [incOf]
  rw [readAt_load a1.view f1 _ zero_pair, readAt_load a2.view f2 _ zero_pair, readAt_load a3.view f3 _ zero_pair, e1, e2, e3]

/-- A later point: the row numbers are stored, the share of the mean is added to what was there. -/
theorem tcBody_next (hc1 : ¬ k0_cond1 i = 1#1) (hc2 : k0_cond2 i = 1#1) :
    iprop(owns c.tc a1 fullShare X ∗ owns c.tc a2 fullShare W ∗ owns c.tc a3 fullShare B ∗ owns c.tc a4 fullShare J ∗ owns c.tc a5 fullShare A)
      ⊢ (wp frame (wpE (defs₀ (F := F)) 𝒱₀ c.tc none) Set.univ (cc0__logits_kernel i a1 h1 a2 h2 a3 h3 a4 h4 a5 h5)
          fun _ => iprop(owns c.tc a1 fullShare X ∗ owns c.tc a2 fullShare W ∗ owns c.tc a3 fullShare B
            ∗ owns c.tc a4 fullShare (idxOf X W B) ∗ owns c.tc a5 fullShare (addOf X W B A)) : sProp 𝕄) := by
  simp only [cc0__logits_kernel_eq_skeleton, k0_part1_eq_skeleton]
  unfold cc0__logits_kernel_skel
  simp only [dif_neg hc1, dif_pos hc2]
  unfold owns
  iintro ⟨⟨%f1, %e1, H1⟩, ⟨%f2, %e2, H2⟩, ⟨%f3, %e3, H3⟩, ⟨%f4, %e4, H4⟩, ⟨%f5, %e5, H5⟩⟩
  sl_exec
  sl_step
  isplitl [H1]; · iexists _; isplitr; swap; iexact H1; ipureintro; exact e1
  isplitl [H2]; · iexists _; isplitr; swap; iexact H2; ipureintro; exact e2
  isplitl [H3]; · iexists _; isplitr; swap; iexact H3; ipureintro; exact e3
  isplitl [H4]
  · iexists _; isplitr; swap; iexact H4; ipureintro
    refine (read_store a4.view f4 _ zero_pair _ []).trans ?_
    delta tcBody_next.sl.r_1 tcBody_next.sl.r_2 tcBody_next.sl.r_3
    dsimp only [idxOf]
    rw [readAt_load a1.view f1 _ zero_pair, readAt_load a2.view f2 _ zero_pair, readAt_load a3.view f3 _ zero_pair, e1, e2, e3]
  iexists _; isplitr; swap; iexact H5; ipureintro
  refine (read_store a5.view f5 _ zero_pair _ []).trans ?_
  delta tcBody_next.sl.r tcBody_next.sl.r_4 tcBody_next.sl.cst_13
  dsimp only [addOf]
  rw [readAt_load a1.view f1 _ zero_pair, readAt_load a2.view f2 _ zero_pair, readAt_load a3.view f3 _ zero_pair,
    readAt_load a5.view f5 _ zero_pair, e1, e2, e3, e5]

end Body

end Cert.Proof.Run

end
-- ==== Proof.Region.lean ====
/-
  The TensorCore call as a region of the program: the pipeline's proof data (eight points, each fetching 256 rows,
  writing their row numbers, and carrying the mean in a buffer written back after the last), the obligation of its body,
  and the region's rule, from the unscoped buffers at given contents to the same with the call's two results.
-/
module

public import proofs.«01_k».proof.Proof.TcBody
public import Idealize.ShloMosaic.Lib.Pipeline.Frame
public import Idealize.ShloMosaic.Lib.Pipeline.FrameBody
public import Idealize.ShloMosaic.Lib.Pipeline.Value

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation cellOf)

variable {F : FTy → Type}

local notation "𝕄" => MT nD τ sig (HIx 1) (Elt F) ℕ UU ℕ
variable [FloatOps F]

variable (V : Dev nD → Valuation τ sig (Elt F))

/-! ## What the call computes, from the buffers' contents when it is entered -/

/-- The rows, the weights, the bias. -/
abbrev xAll (c : Dev nD) : S2048x4096.Idx → F .f32 := V c (Proc.devRef .tc main_v0)
abbrev wAll (c : Dev nD) : S1024x4096.Idx → F .f32 := V c (Proc.devRef .tc main_arg1)
abbrev bAll (c : Dev nD) : S1x1024.Idx → F .f32 := V c (Proc.devRef .tc main_v7)

/-- Rows `256 t` to `256 t + 255`. -/
def xBlk (c : Dev nD) (t : ℕ) (ht : t < 8) : S256x4096.Idx → F .f32 := fun j =>
  xAll V c fun | 0 => ⟨256 * t + (j 0).val, by have h : (j 0).val < 256 := (j 0).isLt; show _ < 2048; omega⟩ | 1 => j 1

/-- The row numbers of block `t`. -/
def idxBlk (c : Dev nD) (t : ℕ) (ht : t < 8) : S256x2.Idx → BitVec 32 := idxOf (xBlk V c t ht) (wAll V c) (bAll V c)

/-- The mean so far after block `t`. -/
def accTo (c : Dev nD) : (t : ℕ) → t < 8 → S1x1024.Idx → F .f32
  | 0, h => incOf (xBlk V c 0 h) (wAll V c) (bAll V c)
  | t + 1, h => addOf (xBlk V c (t + 1) h) (wAll V c) (bAll V c) (accTo c t (Nat.lt_of_succ_lt h))

/-- All the row numbers: row `r` is row `r % 256` of block `r / 256`. -/
def idxAll (c : Dev nD) : S2048x2.Idx → BitVec 32 := fun j =>
  idxBlk V c ((j 0).val / 256) (by have h : (j 0).val < 2048 := (j 0).isLt; omega)
    fun | 0 => ⟨(j 0).val % 256, Nat.mod_lt _ (by decide)⟩ | 1 => j 1

/-- The mean. -/
abbrev meanAll (c : Dev nD) : S1x1024.Idx → F .f32 := accTo V c 7 (by decide)

/-- The buffers' contents when the call is left. -/
def Vout (c : Dev nD) : Valuation τ sig (Elt F) :=
  Function.update (Function.update (V c) (Proc.devRef .tc main_v8_0) (idxAll V c)) (Proc.devRef .tc main_v8_1) (meanAll V c)

/-! ## The pipeline's proof data -/

theorem tlt (t : Fin cfg0.N) : t.val < 8 := lt_of_lt_of_eq t.isLt N_0

/-- Nothing recorded above level zero. -/
def recs (c : Dev nD) : Set (SemLoc sig × HIx 1) := {p | (K (F := F)).lev ((SparseCore.T c : Thread nD τ), p.1) p.2 ≤ 0}

def dats (_ : Fin 1) (c : Dev nD) : Dat τ (Elt F) (HIx 1) ℕ UU ℕ cfg0 c where
  A w := V c (Proc.devRef .tc (Pipeline.arrRef spec0 w))
  after w t := match w with
    | ⟨0, _⟩ => xBlk V c t.val (tlt t)
    | ⟨1, _⟩ => wAll V c
    | ⟨2, _⟩ => bAll V c
    | ⟨3, _⟩ => idxBlk V c t.val (tlt t)
    | ⟨4, _⟩ => accTo V c t.val (tlt t)
  Φ _ := iprop(emp)
  q _ := fullShare
  owed _ := (K (F := F)).Otc c 0
  recorded _ := recs (F := F) c

theorem A_eq (c : Dev nD) (w : Fin cfg0.W) : (dats V 0 c).A w = V c (Proc.devRef .tc (Pipeline.arrRef spec0 w)) := by
  dsimp only [dats]

theorem coord0 : ∀ t : Fin grid0.N, ((grid0.coords t) 0).val = t.val := by decide

theorem index_x : ∀ t : Fin grid0.N, win0_0.index t 0 = t.val := by decide
theorem index_i : ∀ t : Fin grid0.N, win0_3.index t 0 = t.val := by decide

theorem block_x (c : Dev nD) (t : Fin cfg0.N) : (dats V 0 c).blockOf 0 t = xBlk V c t.val (tlt t) := by
  funext j
  show V c (Proc.devRef .tc main_v0) _ = V c (Proc.devRef .tc main_v0) _
  congr 1
  funext a
  apply Fin.ext
  match a with
  | ⟨0, _⟩ =>
    show win0_0.index t 0 * 256 + 1 * (j 0).val = 256 * t.val + (j 0).val
    rw [index_x]; omega
  | ⟨1, _⟩ =>
    show win0_0.index t 1 * 4096 + 1 * (j 1).val = (j 1).val
    rw [show win0_0.index t 1 = 0 from rfl]; omega

theorem block_w (c : Dev nD) (t : Fin cfg0.N) : (dats V 0 c).blockOf 1 t = wAll V c := by
  have hz : (fun a => win0_1.index t a * main_arg1.ty.shape.size a) = fun _ => 0 := funext fun a => by
    fin_cases a <;> exact Nat.zero_mul _
  exact Memref.read_access_unit_zero (Elt F) main_arg1 hz (fun a => by rw [congrFun hz a, Nat.zero_add]) _

theorem block_b (c : Dev nD) (t : Fin cfg0.N) : (dats V 0 c).blockOf 2 t = bAll V c := by
  have hz : (fun a => win0_2.index t a * main_v7.ty.shape.size a) = fun _ => 0 := funext fun a => by
    fin_cases a <;> exact Nat.zero_mul _
  exact Memref.read_access_unit_zero (Elt F) main_v7 hz (fun a => by rw [congrFun hz a, Nat.zero_add]) _

theorem before_0 (c : Dev nD) (t : Fin cfg0.N) (d) : (dats V 0 c).before 0 t d = xBlk V c t.val (tlt t) :=
  ((dats V 0 c).before_in_eq_fetched 0 rfl (fun _ => rfl) (fun _ _ _ => rfl) (fun t => (block_x V c t).symm) t d).trans (block_x V c t)
theorem before_1 (c : Dev nD) (t : Fin cfg0.N) (d) : (dats V 0 c).before 1 t d = wAll V c :=
  ((dats V 0 c).before_in_eq_fetched 1 rfl (fun _ => rfl) (fun _ _ _ => rfl) (fun t => (block_w V c t).symm) t d).trans (block_w V c t)
theorem before_2 (c : Dev nD) (t : Fin cfg0.N) (d) : (dats V 0 c).before 2 t d = bAll V c :=
  ((dats V 0 c).before_in_eq_fetched 2 rfl (fun _ => rfl) (fun _ _ _ => rfl) (fun t => (block_b V c t).symm) t d).trans (block_b V c t)

theorem cond_first : ∀ t : Fin grid0.N, t.val = 0 → k0_cond1 (grid0.coords t) = 1#1 ∧ ¬ k0_cond2 (grid0.coords t) = 1#1 := by decide
theorem cond_next : ∀ t : Fin grid0.N, t.val ≠ 0 → ¬ k0_cond1 (grid0.coords t) = 1#1 ∧ k0_cond2 (grid0.coords t) = 1#1 := by decide
theorem live4 : ∀ t : Fin grid0.N, idle0 4 (grid0.coords t) = false := by decide

theorem before_4 (c : Dev nD) (t : ℕ) (h : t + 1 < 8) (ht : t + 1 < cfg0.N) (d) :
    (dats V 0 c).before 4 ⟨t + 1, ht⟩ d = accTo V c t (Nat.lt_of_succ_lt h) := by
  have hfl : (cfg0.win 4).flush (⟨t, by omega⟩ : Fin cfg0.N) = false := by
    rw [Bool.eq_false_iff]
    intro h'
    have := (flush0_4 _).mp h'
    dsimp only at this
    omega
  rw [(dats V 0 c).before_of_pos 4 ⟨t + 1, ht⟩ (Nat.succ_ne_zero t) ((cfg0.win 4).fetch_out rfl _) d]
  show (if (cfg0.win 4).flush (⟨t, by omega⟩ : Fin cfg0.N) = true then d else (dats V 0 c).left 4 ⟨t, by omega⟩ d) = _
  rw [hfl, if_neg Bool.false_ne_true]
  unfold Dat.left
  rw [show cfg0.idle 4 (cfg0.grid.coords (⟨t, by omega⟩ : Fin cfg0.N)) = false from live4 _]
  rfl

/-- The body's obligation at every point. -/
theorem body_obligation (c : Dev nD) : BodyObligation (dats V 0 c) (defs₀ (F := F)) 𝒱₀ none Set.univ := fun t => by
  rw [bigSep_W0, bigSep_W0]
  rw [show (dats V 0 c).Φ t.castSucc = iprop(emp) from rfl, show (dats V 0 c).Φ t.succ = iprop(emp) from rfl,
    show (dats V 0 c).owesAt none t.castSucc = (dats V 0 c).owesAt none 0 from rfl, show (dats V 0 c).owesAt none t.succ = (dats V 0 c).owesAt none 0 from rfl]
  simp only [live4]
  show _ ⊢ wp _ _ _ (bodyAt0 t) _
  iintro ⟨-, HO, ⟨%d0, H0⟩, ⟨%d1, H1⟩, ⟨%d2, H2⟩, ⟨%d3, H3⟩, ⟨%d4, H4⟩⟩
  rw [before_0, before_1, before_2]
  obtain ⟨t, ht⟩ := t
  cases t with
  | zero =>
    have hc := cond_first ⟨0, ht⟩ rfl
    iapply (wp_wand_r _ _ _)
    isplitl [H0 H1 H2 H3 H4]
    · iapply (tcBody_first c (grid0.coords ⟨0, ht⟩) _ _ _ _ _ _ _ _ _ _ _ _ _ _ _ hc.1 hc.2)
      isplitl [H0]; · iexact H0
      isplitl [H1]; · iexact H1
      isplitl [H2]; · iexact H2
      isplitl [H3]; · iexact H3
      iexact H4
    iintro %_ ⟨H0, H1, H2, H3, H4⟩
    isplitr; · iempintro
    isplitl [HO]; · iexact HO
    isplitl [H0]; · iexact H0
    isplitl [H1]; · iexact H1
    isplitl [H2]; · iexact H2
    isplitl [H3]; · iexact H3
    rw [show idle0 4 (grid0.coords (⟨0, ht⟩ : Fin grid0.N)) = false from live4 _]
    iexact H4
  | succ t =>
    have hc := cond_next ⟨t + 1, ht⟩ (Nat.succ_ne_zero t)
    have ht' : t + 1 < 8 := lt_of_lt_of_eq ht N_0
    rw [before_4 V c t ht']
    iapply (wp_wand_r _ _ _)
    isplitl [H0 H1 H2 H3 H4]
    · iapply (tcBody_next c (grid0.coords ⟨t + 1, ht⟩) _ _ _ _ _ _ _ _ _ _ _ _ _ _ _ hc.1 hc.2)
      isplitl [H0]; · iexact H0
      isplitl [H1]; · iexact H1
      isplitl [H2]; · iexact H2
      isplitl [H3]; · iexact H3
      iexact H4
    iintro %_ ⟨H0, H1, H2, H3, H4⟩
    isplitr; · iempintro
    isplitl [HO]; · iexact HO
    isplitl [H0]; · iexact H0
    isplitl [H1]; · iexact H1
    isplitl [H2]; · iexact H2
    isplitl [H3]; · iexact H3
    rw [show idle0 4 (grid0.coords (⟨t + 1, ht⟩ : Fin grid0.N)) = false from live4 _]
    iexact H4

/-! ## The arrays' contents at the end -/

theorem final_0 (c : Dev nD) : (dats V 0 c).arrAt 0 cfg0.N = V c (Proc.devRef .tc main_v0) := (dats V 0 c).arrAt_in 0 rfl _
theorem final_1 (c : Dev nD) : (dats V 0 c).arrAt 1 cfg0.N = V c (Proc.devRef .tc main_arg1) := (dats V 0 c).arrAt_in 1 rfl _
theorem final_2 (c : Dev nD) : (dats V 0 c).arrAt 2 cfg0.N = V c (Proc.devRef .tc main_v7) := (dats V 0 c).arrAt_in 2 rfl _

theorem idxBlk_congr (c : Dev nD) {t t' : ℕ} (h : t = t') (ht : t < 8) (ht' : t' < 8) {j j' : S256x2.Idx} (hj : j = j') :
    idxBlk V c t ht j = idxBlk V c t' ht' j' := by subst h; subst hj; rfl

theorem final_3 (c : Dev nD) : (dats V 0 c).arrAt 3 cfg0.N = idxAll V c := by
  refine (dats V 0 c).arrAt_eq_of_cover 3 (idxAll V c) (fun t _ => ?_) fun i => ?_
  · funext j
    show idxBlk V c t.val (tlt t) j = idxAll V c (((cfg0.win 3).blk t).view.emb j)
    have h0 : (((cfg0.win 3).blk t).view.emb j 0).val = 256 * t.val + (j 0).val := by
      show win0_3.index t 0 * 256 + 1 * (j 0).val = _
      rw [index_i]; omega
    have h1 : (((cfg0.win 3).blk t).view.emb j 1).val = (j 1).val := by
      show win0_3.index t 1 * 2 + 1 * (j 1).val = _
      rw [show win0_3.index t 1 = 0 from rfl]; omega
    have hj : (j 0).val < 256 := (j 0).isLt
    unfold idxAll
    refine idxBlk_congr V c (by rw [h0]; omega) _ _ (funext fun a => Fin.ext ?_)
    match a with
    | ⟨0, _⟩ => show (j 0).val = _ % 256; rw [h0]; omega
    | ⟨1, _⟩ => exact h1.symm
  · have h0 : (i 0 : Nat) < 2048 := (i 0).isLt
    have h1 : (i 1 : Nat) < 2 := (i 1).isLt
    have hlt : (i 0 : Nat) / 256 < grid0.N := by rw [N_0]; omega
    refine ⟨⟨(i 0 : Nat) / 256, hlt⟩, flush0_3 _, ?_⟩
    show i ∈ ((View.whole main_v8_0).slice (win0_3.rect ⟨(i 0 : Nat) / 256, hlt⟩)).set
    rw [View.set_slice_whole, Rect.mem_set_unit]
    intro a
    match a with
    | ⟨0, _⟩ =>
      show win0_3.index ⟨(i 0 : Nat) / 256, hlt⟩ 0 * 256 ≤ (i 0 : Nat) ∧ (i 0 : Nat) < win0_3.index ⟨(i 0 : Nat) / 256, hlt⟩ 0 * 256 + 256
      rw [index_i]; dsimp only; omega
    | ⟨1, _⟩ =>
      show win0_3.index ⟨(i 0 : Nat) / 256, hlt⟩ 1 * 2 ≤ (i 1 : Nat) ∧ (i 1 : Nat) < win0_3.index ⟨(i 0 : Nat) / 256, hlt⟩ 1 * 2 + 2
      rw [show win0_3.index ⟨(i 0 : Nat) / 256, hlt⟩ 1 = 0 from rfl]; omega

theorem final_4 (c : Dev nD) : (dats V 0 c).arrAt 4 cfg0.N = meanAll V c := by
  refine (dats V 0 c).arrAt_eq_of_cover 4 (meanAll V c) (fun t hf => ?_) fun i => ⟨t0_7, (flush0_4 t0_7).mpr rfl, ?_⟩
  · have h7 : t.val = 7 := by have := (flush0_4 t).mp hf; have := tlt t; omega
    obtain rfl : t = t0_7 := Fin.ext h7
    have hz : (fun a => win0_4.index t0_7 a * main_v8_1.ty.shape.size a) = fun _ => 0 := funext fun a => by
      fin_cases a <;> exact Nat.zero_mul _
    exact (Memref.read_access_unit_zero (Elt F) main_v8_1 hz (fun a => by rw [congrFun hz a, Nat.zero_add]) _).symm
  · show i ∈ ((View.whole main_v8_1).slice (win0_4.rect t0_7)).set
    rw [View.set_slice_whole, Rect.mem_set_unit]
    intro a
    have h0 : (i 0 : Nat) < 1 := (i 0).isLt
    have h1 : (i 1 : Nat) < 1024 := (i 1).isLt
    match a with
    | ⟨0, _⟩ =>
      show win0_4.index t0_7 0 * 1 ≤ (i 0 : Nat) ∧ (i 0 : Nat) < win0_4.index t0_7 0 * 1 + 1
      rw [show win0_4.index t0_7 0 = 0 from rfl]; omega
    | ⟨1, _⟩ =>
      show win0_4.index t0_7 1 * 1024 ≤ (i 1 : Nat) ∧ (i 1 : Nat) < win0_4.index t0_7 1 * 1024 + 1024
      rw [show win0_4.index t0_7 1 = 0 from rfl]; omega

/-! ## The contents when the call is left -/

theorem Vout_v8_1 (c : Dev nD) : Vout V c (Proc.devRef .tc main_v8_1) = meanAll V c := Function.update_self _ _ _
theorem Vout_v8_0 (c : Dev nD) : Vout V c (Proc.devRef .tc main_v8_0) = idxAll V c :=
  (Function.update_of_ne (StableHlo.devRef_ne_of_ne (by decide)) _ _).trans (Function.update_self _ _ _)
theorem Vout_of_ne (c : Dev nD) (b : Ref sig .tc) (h0 : b ≠ main_v8_0) (h1 : b ≠ main_v8_1) :
    Vout V c (Proc.devRef .tc b) = V c (Proc.devRef .tc b) :=
  (Function.update_of_ne (StableHlo.devRef_ne_of_ne h1) _ _).trans (Function.update_of_ne (StableHlo.devRef_ne_of_ne h0) _ _)

theorem final_eq (c : Dev nD) (w : Fin cfg0.W) : (dats V 0 c).arrAt w cfg0.N = Vout V c (Proc.devRef .tc (Pipeline.arrRef spec0 w)) := by
  match w with
  | ⟨0, _⟩ => exact (final_0 V c).trans (Vout_of_ne V c main_v0 (by decide) (by decide)).symm
  | ⟨1, _⟩ => exact (final_1 V c).trans (Vout_of_ne V c main_arg1 (by decide) (by decide)).symm
  | ⟨2, _⟩ => exact (final_2 V c).trans (Vout_of_ne V c main_v7 (by decide) (by decide)).symm
  | ⟨3, _⟩ => exact (final_3 V c).trans (Vout_v8_0 V c).symm
  | ⟨4, _⟩ => exact (final_4 V c).trans (Vout_v8_1 V c).symm

theorem rest_eq (c : Dev nD) :
    (Pipeline.unscopedRest (Ix := HIx 1) (Name := ℕ) (U := UU) (Lvl := ℕ) spec0 c (fun b => Vout V c b) : sProp 𝕄)
      = Pipeline.unscopedRest spec0 c (fun b => V c b) := by
  unfold Pipeline.unscopedRest
  refine bigSep_congr fun b hb => ?_
  have hb' := (Finset.mem_sdiff.mp hb).2
  have h0 : b ≠ main_v8_0 := fun h => hb' (Finset.mem_image.mpr ⟨3, Finset.mem_univ _, h.symm⟩)
  have h1 : b ≠ main_v8_1 := fun h => hb' (Finset.mem_image.mpr ⟨4, Finset.mem_univ _, h.symm⟩)
  exact congrArg (fun f => ((c : Thread nD τ).loc b ↦{fullShare} f : sProp 𝕄)) (Vout_of_ne V c b h0 h1)

/-! ## The region -/

/-- What the TensorCore owes through the region: the SparseCores' starts, nothing recorded above level zero. -/
abbrev R (c : Dev nD) : sProp 𝕄 :=
  iprop(∃ W, ⌜(K (F := F)).WBelow (SparseCore.T c) W 0⌝ ∗ owes (c : Thread nD τ) ((K (F := F)).Otc c 0) W)

/-- The kernel has no semaphore of its own. -/
def osem0 : Fin 0 → SemLoc sig := fun k => k.elim0
theorem ownSem0 : Pipeline.OwnSemFacts spec0 osem0 := by decide

/-- The arrays at their final contents are the buffers behind them as the call leaves them. -/
theorem arrays_out (c : Dev nD) :
    ((dats V 0 c).arrays ((dats V 0 c).arrAt · cfg0.N) : sProp 𝕄)
      = bigSep Finset.univ fun w => ((c : Thread nD τ).loc (Pipeline.arrRef spec0 w) ↦{fullShare} Vout V c (Proc.devRef .tc (Pipeline.arrRef spec0 w)) : sProp 𝕄) :=
  (Pipeline.arrays_eq cfgs (dats V) 0 c launch0.arr_whole ((dats V 0 c).share_full fun _ => rfl) _).trans
    (bigSep_congr fun w _ => congrArg (fun f => ((c : Thread nD τ).loc (Pipeline.arrRef spec0 w) ↦{fullShare} f : sProp 𝕄)) (final_eq V c w))

abbrev adm : (p : Fin 1) → (pcfgs (F := F) p).Adm := fun p => (cfgs p).toPCfg_adm

theorem Otc_none (c : Dev nD) (g : GSem nD τ sig) : (K (F := F)).Otc c 0 g none = 0 := by
  by_contra h
  have := (K (F := F)).lev_of_Otc_pos (Nat.pos_of_ne_zero h)
  rw [(K (F := F)).lev_none] at this
  omega

theorem bound_recs (c : Dev nD) (t : Fin (cfg0.N + 1)) : (dats V 0 c).bound none t ⊆ recs (F := F) c := by
  rintro p (h | ⟨w, s, rfl⟩)
  · exact h
  · exact le_of_eq ((K (F := F)).lev_none _)

set_option backward.isDefEq.respectTransparency.types false in
def reg0 : Pipeline.RegionSeg (pcfgs (F := F)) adm (dats V) none defs₀ 𝒱₀ (K (F := F)).L (K (F := F)).lev 0 where
  win := launch0.win.to₀
  block_pos := launch0.block_pos
  stage_whole := launch0.stage_whole
  K := Fin 0
  osem := osem0
  ho := ownSem0
  hbody c := (body_obligation V c).loose
  hwaits c := Pipeline.cellsWaits_intro _ _ _ _ _ fun w s t => (K (F := F)).mayWait_none _ (Otc_none c)
  pre c := iprop(StableHlo.held (c : Thread nD τ) (Pipeline.ucRefs τ sig) (V c) ∗ R c)
  post c := iprop(StableHlo.held (c : Thread nD τ) (Pipeline.ucRefs τ sig) (Vout V c) ∗ R c)
  X c := iprop(emp)
  Y c := iprop(emp)
  Z c := Pipeline.unscopedRest spec0 c (fun b => V c b)
  hentry c := by
    rw [← Pipeline.unscopedBufs_held c (V c)]
    have hsplit := (Pipeline.arrays_of_unscopedBufs (pcfgs (F := F)) adm (dats V) launch0.win launch0.arr_whole c
      ((dats V 0 c).share_full fun _ => rfl) (fun b => V c b) (A_eq V c))
    iintro ⟨⟨Hub, %W, %hW, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact HZ
  hin c := by
    rw [show (dats V 0 c).Φ 0 = iprop(emp) from rfl]
    iintro -
    iempintro
  hout c := by
    rw [show (dats V 0 c).Φ (Fin.last cfg0.N) = iprop(emp) from rfl, show (Pipeline.scopedRest _ c : sProp 𝕄) = _ from scopedRest0_eq c]
    unfold Pipeline.ownSems0
    rw [show (Finset.univ : Finset (Fin 0)) = ∅ from rfl, BI.bigSep_empty]
    iintro -
    isplitr; · iempintro
    isplitr <;> iempintro
  hexit c := by
    rw [← Pipeline.unscopedBufs_held c (Vout V c)]
    iintro ⟨Ha, ⟨%W, %hW, HO⟩, -, HZ⟩
    imodintro
    isplitr [HO]
    · rw [Pipeline.unscopedBufs_split cfgs 0 launch0.win.arr_unscoped launch0.win.arr_inj c (fun b => Vout V c b)]
      isplitl [Ha]
      · iapply (Entails.of_eq (arrays_out V c))
        iexact Ha
      · rw [show (Pipeline.unscopedRest (cfgs 0).spec c (fun b => Vout V c b) : sProp 𝕄) = _ from rest_eq V c]
        iexact HZ
    · iexists W; isplitr; · ipureintro; exact fun p hp => bound_recs V c _ (hW hp)
      iexact HO

end Cert.Proof.Run

end
-- ==== Proof.HostOps.lean ====
/-
  @main as a chain: the host operations before the TensorCore call, the call, the reshape of its row numbers, the
  SparseCore call, the last reshapes; and the contents of the buffers along it.
-/
module

public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation cellOf)

variable {F : FTy → Type}

local notation "𝕄" => MT nD τ sig (HIx 1) (Elt F) ℕ UU ℕ
variable [FloatOps F]

/-! ## The host's operations, in the program's order -/

/-- Before the TensorCore call: the reshapes, and the table with its halves padded side by side. -/
abbrev ops1 : List (HloOp τ sig (Elt F)) :=
  [StableHlo.reshape main_arg0 main_v0 (rfl : (.f32 : EltTy) = .f32) shapeCasts_S1x2048x4096_S2048x4096,
   StableHlo.reshape main_arg3 main_v1 (rfl : (.f32 : EltTy) = .f32) shapeCasts_S1x1024x64_S1024x64,
   StableHlo.unary main_v1 main_v2 ((extractStridedSlice S512x64 ![0, 0] · slices_S1024x64_S512x64_0_0) : (⟨S1024x64, .f32⟩ : BufTy).Contents (Elt F) → (⟨S512x64, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v2 : StableHlo.TRef sig ⟨S512x64, .f32⟩) main_call0.v0 main_call0.v1 (fun x v => pad S512x128 ![0, 0] ![0, 64] ![0, 0] x v pads_S512x64_S512x128_000_0640 h_S_),
   StableHlo.unary main_v1 main_v4 ((extractStridedSlice S512x64 ![512, 0] · slices_S1024x64_S512x64_512_0) : (⟨S1024x64, .f32⟩ : BufTy).Contents (Elt F) → (⟨S512x64, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v4 : StableHlo.TRef sig ⟨S512x64, .f32⟩) main_call1.v0 main_call1.v1 (fun x v => pad S512x128 ![0, 64] ![0, 0] ![0, 0] x v pads_S512x64_S512x128_000_6400 h_S_),
   StableHlo.binary main_v3 main_v5 main_v6 ((fun a b => concatenate S1024x128 0 [⟨S512x128, a⟩, ⟨S512x128, b⟩] concatenates_S512x128_S512x128_S1024x128_d0) : (⟨S512x128, .f32⟩ : BufTy).Contents (Elt F) → (⟨S512x128, .f32⟩ : BufTy).Contents (Elt F) → (⟨S1024x128, .f32⟩ : BufTy).Contents (Elt F)),
   StableHlo.reshape main_arg2 main_v7 (rfl : (.f32 : EltTy) = .f32) shapeCasts_S1024_S1x1024]

/-- Between the calls. -/
abbrev ops2 : List (HloOp τ sig (Elt F)) :=
  [StableHlo.reshape main_v8_0 main_v9 (rfl : (.i32 : EltTy) = .i32) shapeCasts_S2048x2_S4096]

/-- After the SparseCore call. -/
abbrev ops3 : List (HloOp τ sig (Elt F)) :=
  [StableHlo.reshape main_v8_1 main_v11 (rfl : (.f32 : EltTy) = .f32) shapeCasts_S1x1024_S2x512,
   StableHlo.reshape main_v10 main_v12 (rfl : (.f32 : EltTy) = .f32) shapeCasts_S2048x128_S1x2048x128]

theorem main_eq (d : Dev nD) : main (F := F) d = (StableHlo.seq ops1 >>= fun _ =>
    Prog.lift (.customCall (SparseCore.inner (Pipeline.entry 0)) ()) >>= fun _ => StableHlo.seq ops2 >>= fun _ =>
    (K (F := F)).run d 0 >>= fun _ => StableHlo.seq ops3 >>= fun _ => pure ⟨⟩) := rfl

theorem sub1 : ∀ op ∈ (ops1 (F := F)), op.bufs ⊆ Pipeline.ucRefs τ sig := by
  intro op hop
  refine Pipeline.sub_ucRefs op ?_
  revert op
  rw [← List.forall_iff_forall_mem]
  exact ⟨StableHlo.reshape_bufs_sub .., StableHlo.reshape_bufs_sub .., StableHlo.unary_bufs_sub .., StableHlo.nullary_bufs_sub ..,
    StableHlo.unary_bufs_sub .., StableHlo.binary_bufs_sub .., StableHlo.unary_bufs_sub .., StableHlo.nullary_bufs_sub ..,
    StableHlo.unary_bufs_sub .., StableHlo.binary_bufs_sub .., StableHlo.binary_bufs_sub .., StableHlo.reshape_bufs_sub ..⟩
theorem sub2 : ∀ op ∈ (ops2 (F := F)), op.bufs ⊆ Pipeline.ucRefs τ sig := by
  intro op hop
  refine Pipeline.sub_ucRefs op ?_
  revert op
  rw [← List.forall_iff_forall_mem]
  exact StableHlo.reshape_bufs_sub ..
theorem sub3 : ∀ op ∈ (ops3 (F := F)), op.bufs ⊆ Pipeline.ucRefs τ sig := by
  intro op hop
  refine Pipeline.sub_ucRefs op ?_
  revert op
  rw [← List.forall_iff_forall_mem]
  exact ⟨StableHlo.reshape_bufs_sub .., StableHlo.reshape_bufs_sub ..⟩

theorem fresh1 : ∀ op ∈ (ops1 (F := F)), op.fresh = ∅ := by
  intro _ h; (repeat (cases h with | head => rfl | tail _ h => ?_)); exact nomatch h
theorem fresh2 : ∀ op ∈ (ops2 (F := F)), op.fresh = ∅ := by
  intro _ h; (repeat (cases h with | head => rfl | tail _ h => ?_)); exact nomatch h
theorem fresh3 : ∀ op ∈ (ops3 (F := F)), op.fresh = ∅ := by
  intro _ h; (repeat (cases h with | head => rfl | tail _ h => ?_)); exact nomatch h

/-! ## The buffers' contents along the program -/

variable (m : (ℓ : Loc nD τ sig) → Buf (Elt F) ℓ)

/-- At launch; when the TensorCore call is entered; when it is left; at the SparseCore call; after it; at the end. -/
def V0 (d : Dev nD) : Valuation τ sig (Elt F) := fun b => m (d, b)
def V1 (d : Dev nD) : Valuation τ sig (Elt F) := StableHlo.after ops1 (V0 m d)
def V2 (d : Dev nD) : Valuation τ sig (Elt F) := Vout (V1 m) d
def V3 (d : Dev nD) : Valuation τ sig (Elt F) := StableHlo.after ops2 (V2 m d)
def V4 (d : Dev nD) : Valuation τ sig (Elt F) :=
  Function.update (V3 m d) (Proc.devRef .tc main_v10) (gOut (V3 m d (Proc.devRef .tc main_v6)) (V3 m d (Proc.devRef .tc main_v9)))
def V5 (d : Dev nD) : Valuation τ sig (Elt F) := StableHlo.after ops3 (V4 m d)

/-- What the first operations write. -/
theorem V1_of_ne (d : Dev nD) (b : Ref sig .tc) (hb : b ∉ ([main_v0, main_v1, main_v2, main_c, main_call0_v0, main_v3, main_v4, main_c_0, main_call1_v0, main_v5, main_v6, main_v7] : List (Ref sig .tc))) :
    V1 m d (Proc.devRef .tc b) = m ((d : Thread nD τ).loc b) := by
  refine StableHlo.after_of_forall_not_mem (b := Proc.devRef .tc b) ops1 (V0 m d) ?_
  simp only [List.mem_cons, List.mem_nil_iff, or_false, not_or] at hb
  obtain ⟨h0, h1, h2, h3, h4, h5, h6, h7, h8, h9, h10, h11⟩ := hb
  intro op hop
  simp only [List.mem_cons, List.mem_nil_iff, or_false] at hop
  rcases hop with rfl | rfl | rfl | rfl | rfl | rfl | rfl | rfl | rfl | rfl | rfl | rfl <;>
    simp only [StableHlo.reshape_writes, StableHlo.unary_writes, StableHlo.binary_writes, StableHlo.nullary_writes, StableHlo.TRef.unary, StableHlo.TRef.binary, Finset.mem_singleton] <;>
    exact StableHlo.devRef_ne_of_ne ‹_›

theorem V3_of_ne (d : Dev nD) (b : Ref sig .tc) (hb : b ≠ main_v9) : V3 m d (Proc.devRef .tc b) = V2 m d (Proc.devRef .tc b) := by
  refine StableHlo.after_of_forall_not_mem (b := Proc.devRef .tc b) ops2 (V2 m d) ?_
  intro op hop
  simp only [List.mem_cons, List.mem_nil_iff, or_false] at hop
  subst hop
  simp only [StableHlo.reshape_writes, Finset.mem_singleton]
  exact StableHlo.devRef_ne_of_ne hb

theorem V4_of_ne (d : Dev nD) (b : Ref sig .tc) (hb : b ≠ main_v10) : V4 m d (Proc.devRef .tc b) = V3 m d (Proc.devRef .tc b) :=
  Function.update_of_ne (StableHlo.devRef_ne_of_ne hb) _ _

theorem V5_of_ne (d : Dev nD) (b : Ref sig .tc) (hb : b ≠ main_v11) (hb' : b ≠ main_v12) : V5 m d (Proc.devRef .tc b) = V4 m d (Proc.devRef .tc b) := by
  refine StableHlo.after_of_forall_not_mem (b := Proc.devRef .tc b) ops3 (V4 m d) ?_
  intro op hop
  simp only [List.mem_cons, List.mem_nil_iff, or_false] at hop
  rcases hop with rfl | rfl <;> simp only [StableHlo.reshape_writes, Finset.mem_singleton] <;> exact StableHlo.devRef_ne_of_ne ‹_›

/-- A buffer nothing writes ends as it began. -/
theorem V5_arg (d : Dev nD) (b : Ref sig .tc) (hb : b ∉ ([main_v0, main_v1, main_v2, main_c, main_call0_v0, main_v3, main_v4, main_c_0, main_call1_v0, main_v5, main_v6, main_v7] : List (Ref sig .tc)))
    (h80 : b ≠ main_v8_0) (h81 : b ≠ main_v8_1) (h9 : b ≠ main_v9) (h10 : b ≠ main_v10) (h11 : b ≠ main_v11) (h12 : b ≠ main_v12) :
    V5 m d (Proc.devRef .tc b) = m ((d : Thread nD τ).loc b) :=
  (V5_of_ne m d b h11 h12).trans ((V4_of_ne m d b h10).trans ((V3_of_ne m d b h9).trans ((Vout_of_ne (V1 m) d b h80 h81).trans (V1_of_ne m d b hb))))

theorem V3_v10 (d : Dev nD) : V3 m d (Proc.devRef .tc main_v10) = m (oLoc d) :=
  (V3_of_ne m d main_v10 (by decide)).trans ((Vout_of_ne (V1 m) d main_v10 (by decide) (by decide)).trans (V1_of_ne m d main_v10 (by decide)))

end Cert.Proof.Run

end
-- ==== Proof.Tile.lean ====
/-
  One tile's work, with the values it leaves: it fetches its 128 entries of the index list, gathers the table rows they
  name into its row scratch, adds the rows in pairs into its output scratch (a loop of 64 trips, each writing one row in
  eight pieces of sixteen lanes), and copies the 64 sums to its rows of the output.
-/
module

public import proofs.«01_k».proof.Proof.Setup
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v6_scv : Memref Cert.KernelIdeal.sig Kind.scVector Space.hbm Cert.KernelIdeal.S1024x128 EltTy.f32)
local notation "iV" => (Memref.whole Cert.KernelIdeal.main_v9_scv : Memref Cert.KernelIdeal.sig Kind.scVector Space.hbm Cert.KernelIdeal.S4096 EltTy.i32)
local notation "oV" => (Memref.whole Cert.KernelIdeal.main_v10_scv : Memref Cert.KernelIdeal.sig Kind.scVector Space.hbm Cert.KernelIdeal.S2048x128 EltTy.f32)
local notation "sI" => (Memref.whole Cert.KernelIdeal.cc1_scratch0 : Memref Cert.KernelIdeal.sig Kind.scVector Space.vmem Cert.KernelIdeal.S128 EltTy.i32)
local notation "sR" => (Memref.whole Cert.KernelIdeal.cc1_scratch1 : Memref Cert.KernelIdeal.sig Kind.scVector Space.vmem Cert.KernelIdeal.S128x128 EltTy.f32)
local notation "sO" => (Memref.whole Cert.KernelIdeal.cc1_scratch2 : Memref Cert.KernelIdeal.sig Kind.scVector Space.vmem Cert.KernelIdeal.S64x128 EltTy.f32)

variable (m : (ℓ : Loc nD τ sig) → Buf (Elt F) ℓ)
variable (Tb : (d : Dev nD) → Buf (Elt F) (tLoc d)) (I : (d : Dev nD) → Buf (Elt F) (iLoc d))
variable [FloatOps F]

/-! ## The loop of row sums -/

/-- Row `r` of the output scratch: rows `2 r` and `2 r + 1` of the row scratch added. -/
def pairSum (R : S128x128.Idx → F .f32) : S64x128.Idx → F .f32 := fun j =>
  FloatOps.addf
    (R fun | 0 => ⟨2 * (j 0).val, by have h : (j 0).val < 64 := (j 0).isLt; show _ < 128; omega⟩ | 1 => j 1)
    (R fun | 0 => ⟨2 * (j 0).val + 1, by have h : (j 0).val < 64 := (j 0).isLt; show _ < 128; omega⟩ | 1 => j 1)

/-- The rows before `n` of the output scratch hold their sums. -/
def upTo (R : S128x128.Idx → F .f32) (n : ℕ) (f : S64x128.Idx → F .f32) : Prop :=
  ∀ j : S64x128.Idx, (j 0).val < n → f j = pairSum R j

/-- Two loaded pieces added as flat vectors and laid back out are added lane by lane. -/
theorem sum_cast (x y : S1x16.Idx → F .f32) :
    shapeCast S1x16 (addf (shapeCast S16 x shapeCasts_S1x16_S16) (shapeCast S16 y shapeCasts_S1x16_S16)) shapeCasts_S16_S1x16
      = fun i => FloatOps.addf (x i) (y i) :=
  shapeCast_shapeCast (s := S1x16) (t := S16) (fun i => FloatOps.addf (x i) (y i)) shapeCasts_S1x16_S16 shapeCasts_S16_S1x16

/-- Sixteen lanes of rows `2 k` and `2 k + 1` added are those lanes of row `k` of the sums. -/
theorem piece_ok (R : S128x128.Idx → F .f32) (k c : ℕ) (oa ob oc : Fin 2 → ℕ) (ha : oa = ![2 * k, c]) (hb : ob = ![2 * k + 1, c]) (hc : oc = ![k, c])
    (ia : ∀ a, oa a + (![1, 16] : Fin 2 → ℕ) a ≤ S128x128.size a) (ib : ∀ a, ob a + (![1, 16] : Fin 2 → ℕ) a ≤ S128x128.size a)
    (ic : ∀ a, oc a + (![1, 16] : Fin 2 → ℕ) a ≤ S64x128.size a) (x : S1x16.Idx) :
    shapeCast S1x16 (addf (shapeCast S16 (s := S1x16) (View.readAt (Elt F) (sR).view (Rect.unit (s := S128x128) oa ![1, 16] ia).toLoadRect R) shapeCasts_S1x16_S16)
        (shapeCast S16 (s := S1x16) (View.readAt (Elt F) (sR).view (Rect.unit (s := S128x128) ob ![1, 16] ib).toLoadRect R) shapeCasts_S1x16_S16)) shapeCasts_S16_S1x16 x
      = pairSum R ((Rect.unit (s := S64x128) oc ![1, 16] ic).emb x) := by
  subst ha hb hc
  refine (congrFun (sum_cast _ _) x).trans ?_
  have hx : (x 0).val < 1 := (x 0).isLt
  show FloatOps.addf (R _) (R _) = FloatOps.addf (R _) (R _)
  congr 2 <;> funext a <;> apply Fin.ext <;> fin_cases a
  · show 2 * k + 1 * (x 0).val = 2 * (k + 1 * (x 0).val); omega
  · show c + 1 * (x 1).val = c + 1 * (x 1).val; rfl
  · show 2 * k + 1 + 1 * (x 0).val = 2 * (k + 1 * (x 0).val) + 1; omega
  · show c + 1 * (x 1).val = c + 1 * (x 1).val; rfl

/-- The places of a piece: row `k`, lanes `c` to `c + 16`. -/
theorem mem_piece {k c : ℕ} {oc : Fin 2 → ℕ} (hc : oc = ![k, c]) (ic : ∀ a, oc a + (![1, 16] : Fin 2 → ℕ) a ≤ S64x128.size a) (y : S64x128.Idx)
    (h0 : (y 0).val = k) (h1 : c ≤ (y 1).val) (h2 : (y 1).val < c + 16) : y ∈ (Rect.unit (s := S64x128) oc ![1, 16] ic).set := by
  subst hc
  rw [Rect.mem_set_unit]
  intro a
  fin_cases a
  · exact ⟨le_of_eq h0.symm, by show (y 0).val < k + 1; omega⟩
  · exact ⟨h1, h2⟩

theorem not_mem_piece {k c : ℕ} {oc : Fin 2 → ℕ} (hc : oc = ![k, c]) (ic : ∀ a, oc a + (![1, 16] : Fin 2 → ℕ) a ≤ S64x128.size a) (y : S64x128.Idx)
    (h0 : (y 0).val < k) : y ∉ (Rect.unit (s := S64x128) oc ![1, 16] ic).set := by
  subst hc
  rw [Rect.mem_set_unit]
  intro h
  have := (h 0).1
  change k ≤ (y 0).val at this
  omega

/-- A row written in eight pieces that each hold the sums' lanes completes the rows before `k + 1`. -/
theorem upTo_writes (R : S128x128.Idx → F .f32) (f : S64x128.Idx → F .f32) (k : ℕ) (hf : upTo R k f)
    (L : List (View.Piece (Elt F) S64x128 .f32)) (hG : ∀ p ∈ L, ∀ x, p.2 x = pairSum R (p.1.emb x))
    (hmem : ∀ y : S64x128.Idx, (y 0).val = k → ∃ p ∈ L, y ∈ p.1.set) (hno : ∀ y : S64x128.Idx, (y 0).val < k → ∀ p ∈ L, y ∉ p.1.set) :
    upTo R (k + 1) ((sO).view.writes (Elt F) f L) := by
  intro y hy
  rcases Nat.lt_succ_iff_lt_or_eq.mp hy with h | h
  · show (sO).view.read (Elt F) ((sO).view.writes (Elt F) f L) y = _
    exact Eq.trans (View.read_writes_apply_of_forall_not_mem (sO).view f y L (hno y h)) (hf y h : (sO).view.read (Elt F) f y = pairSum R y)
  · exact View.read_writes_apply_of_pieces (sO).view f (pairSum R) L hG y (hmem y h)

section Tile

variable (d : Dev nD) (L : grid1.Coords)

abbrev cV (L : grid1.Coords) : Fin τ.nSC := (L 0).castLE hcore1
abbrev jV (L : grid1.Coords) : Fin τ.nSub := (L 1).castLE hsub1

theorem pts_sI (f : Buf (Elt F) ((V d (cV L) (jV L)).loc cc1_scratch0)) :
    ((sI).view.loc (V d (cV L) (jV L)) ↦{fullShare} f : sProp 𝕄) = (V d (cV L) (jV L)).loc cc1_scratch0 ↦{fullShare} f := rfl
theorem pts_sR (f : Buf (Elt F) ((V d (cV L) (jV L)).loc cc1_scratch1)) :
    ((sR).view.loc (V d (cV L) (jV L)) ↦{fullShare} f : sProp 𝕄) = (V d (cV L) (jV L)).loc cc1_scratch1 ↦{fullShare} f := rfl
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl

theorem trip (R : S128x128.Idx → F .f32) (f : S64x128.Idx → F .f32) (k : Fin k1_t1_loop.trips) (acc : BitVec 32)
    (hf : upTo R k.val f) :
    iprop(((V d (cV L) (jV L)).loc cc1_scratch1 ↦{fullShare} R) ∗ ((V d (cV L) (jV L)).loc cc1_scratch2 ↦{fullShare} f))
      ⊢ (wp frame (wpE (defs₀ (F := F)) 𝒱₀ (V d (cV L) (jV L)) none) Set.univ
          (k1_t1_body L tV (Memref.isWhole_whole _) iV (Memref.isWhole_whole _) oV (Memref.isWhole_whole _)
            sI (Memref.isWhole_whole _) sR (Memref.isWhole_whole _) sO (Memref.isWhole_whole _) cc1_scratch3 cc1_scoped0 cc1_scoped1 k acc)
          fun _ => iprop(((V d (cV L) (jV L)).loc cc1_scratch1 ↦{fullShare} R)
            ∗ ∃ f', ⌜upTo R (k.val + 1) f'⌝ ∗ ((V d (cV L) (jV L)).loc cc1_scratch2 ↦{fullShare} f')) : sProp 𝕄) := by
  unfold k1_t1_body
  simp only [k1_part1_eq_skeleton, k1_part2_eq_skeleton]
  iintro ⟨HR, HO⟩
  ihave HR := (Entails.of_eq (pts_sR (F := F) d L _).symm) $$ HR
  ihave HO := (Entails.of_eq (pts_sO (F := F) d L _).symm) $$ HO
  sl_exec
  sl_step
  isplitl [HR]; · iexact HR
  iexists _
  isplitr
  swap
  · iexact HO
  ipureintro
  have e2 := k1_off2_eq k; have e3 := k1_off3_eq k; have e4 := k1_off4_eq k; have e5 := k1_off5_eq k; have e6 := k1_off6_eq k
  have e7 := k1_off7_eq k; have e8 := k1_off8_eq k; have e9 := k1_off9_eq k; have e10 := k1_off10_eq k; have e11 := k1_off11_eq k
  have e12 := k1_off12_eq k; have e13 := k1_off13_eq k; have e14 := k1_off14_eq k; have e15 := k1_off15_eq k; have e16 := k1_off16_eq k
  have e17 := k1_off17_eq k; have e18 := k1_off18_eq k; have e19 := k1_off19_eq k; have e20 := k1_off20_eq k; have e21 := k1_off21_eq k
  have e22 := k1_off22_eq k; have e23 := k1_off23_eq k; have e24 := k1_off24_eq k; have e25 := k1_off25_eq k
  refine upTo_writes R f k.val hf _ ?_ ?_ ?_
  · refine List.forall_mem_cons.mpr ⟨fun x => piece_ok R k.val 112 _ _ _ e23 e24 e25 (k1_off23_inb k) (k1_off24_inb k) (k1_off25_inb k) x, ?_⟩
    refine List.forall_mem_cons.mpr ⟨fun x => piece_ok R k.val 96 _ _ _ e20 e21 e22 (k1_off20_inb k) (k1_off21_inb k) (k1_off22_inb k) x, ?_⟩
    refine List.forall_mem_cons.mpr ⟨fun x => piece_ok R k.val 80 _ _ _ e17 e18 e19 (k1_off17_inb k) (k1_off18_inb k) (k1_off19_inb k) x, ?_⟩
    refine List.forall_mem_cons.mpr ⟨fun x => piece_ok R k.val 64 _ _ _ e14 e15 e16 (k1_off14_inb k) (k1_off15_inb k) (k1_off16_inb k) x, ?_⟩
    refine List.forall_mem_cons.mpr ⟨fun x => piece_ok R k.val 48 _ _ _ e11 e12 e13 (k1_off11_inb k) (k1_off12_inb k) (k1_off13_inb k) x, ?_⟩
    refine List.forall_mem_cons.mpr ⟨fun x => piece_ok R k.val 32 _ _ _ e8 e9 e10 (k1_off8_inb k) (k1_off9_inb k) (k1_off10_inb k) x, ?_⟩
    refine List.forall_mem_cons.mpr ⟨fun x => piece_ok R k.val 16 _ _ _ e5 e6 e7 (k1_off5_inb k) (k1_off6_inb k) (k1_off7_inb k) x, ?_⟩
    refine List.forall_mem_cons.mpr ⟨fun x => piece_ok R k.val 0 _ _ _ e2 e3 e4 (k1_off2_inb k) (k1_off3_inb k) (k1_off4_inb k) x, fun _ h => absurd h List.not_mem_nil⟩
  · intro y h0
    have h1 : (y 1).val < 128 := (y 1).isLt
    rcases (by omega : (y 1).val / 16 = 0 ∨ (y 1).val / 16 = 1 ∨ (y 1).val / 16 = 2 ∨ (y 1).val / 16 = 3 ∨ (y 1).val / 16 = 4
      ∨ (y 1).val / 16 = 5 ∨ (y 1).val / 16 = 6 ∨ (y 1).val / 16 = 7) with h | h | h | h | h | h | h | h
    · exact List.exists_mem_cons_of_exists (List.exists_mem_cons_of_exists (List.exists_mem_cons_of_exists (List.exists_mem_cons_of_exists
        (List.exists_mem_cons_of_exists (List.exists_mem_cons_of_exists (List.exists_mem_cons_of_exists ⟨_, List.mem_cons_self, mem_piece e4 (k1_off4_inb k) y h0 (by omega) (by omega)⟩))))))
    · exact List.exists_mem_cons_of_exists (List.exists_mem_cons_of_exists (List.exists_mem_cons_of_exists (List.exists_mem_cons_of_exists
        (List.exists_mem_cons_of_exists (List.exists_mem_cons_of_exists ⟨_, List.mem_cons_self, mem_piece e7 (k1_off7_inb k) y h0 (by omega) (by omega)⟩)))))
    · exact List.exists_mem_cons_of_exists (List.exists_mem_cons_of_exists (List.exists_mem_cons_of_exists (List.exists_mem_cons_of_exists
        (List.exists_mem_cons_of_exists ⟨_, List.mem_cons_self, mem_piece e10 (k1_off10_inb k) y h0 (by omega) (by omega)⟩))))
    · exact List.exists_mem_cons_of_exists (List.exists_mem_cons_of_exists (List.exists_mem_cons_of_exists (List.exists_mem_cons_of_exists
        ⟨_, List.mem_cons_self, mem_piece e13 (k1_off13_inb k) y h0 (by omega) (by omega)⟩)))
    · exact List.exists_mem_cons_of_exists (List.exists_mem_cons_of_exists (List.exists_mem_cons_of_exists
        ⟨_, List.mem_cons_self, mem_piece e16 (k1_off16_inb k) y h0 (by omega) (by omega)⟩))
    · exact List.exists_mem_cons_of_exists (List.exists_mem_cons_of_exists ⟨_, List.mem_cons_self, mem_piece e19 (k1_off19_inb k) y h0 (by omega) (by omega)⟩)
    · exact List.exists_mem_cons_of_exists ⟨_, List.mem_cons_self, mem_piece e22 (k1_off22_inb k) y h0 (by omega) (by omega)⟩
    · exact ⟨_, List.mem_cons_self, mem_piece e25 (k1_off25_inb k) y h0 (by omega) (by omega)⟩
  · intro y h0
    refine List.forall_mem_cons.mpr ⟨not_mem_piece e25 (k1_off25_inb k) y h0, ?_⟩
    refine List.forall_mem_cons.mpr ⟨not_mem_piece e22 (k1_off22_inb k) y h0, ?_⟩
    refine List.forall_mem_cons.mpr ⟨not_mem_piece e19 (k1_off19_inb k) y h0, ?_⟩
    refine List.forall_mem_cons.mpr ⟨not_mem_piece e16 (k1_off16_inb k) y h0, ?_⟩
    refine List.forall_mem_cons.mpr ⟨not_mem_piece e13 (k1_off13_inb k) y h0, ?_⟩
    refine List.forall_mem_cons.mpr ⟨not_mem_piece e10 (k1_off10_inb k) y h0, ?_⟩
    refine List.forall_mem_cons.mpr ⟨not_mem_piece e7 (k1_off7_inb k) y h0, ?_⟩
    refine List.forall_mem_cons.mpr ⟨not_mem_piece e4 (k1_off4_inb k) y h0, fun _ h => absurd h List.not_mem_nil⟩

end Tile

end Cert.Proof.Run

end
-- ==== Proof.TileValues.lean ====
/-
  What one tile's copies leave, as values: the fetched part of the index list, the gathered rows of the table, and the
  tile's rows of the output, which are the rows `gOut` names.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v6_scv : Memref Cert.KernelIdeal.sig Kind.scVector Space.hbm Cert.KernelIdeal.S1024x128 EltTy.f32)
local notation "iV" => (Memref.whole Cert.KernelIdeal.main_v9_scv : Memref Cert.KernelIdeal.sig Kind.scVector Space.hbm Cert.KernelIdeal.S4096 EltTy.i32)
local notation "oV" => (Memref.whole Cert.KernelIdeal.main_v10_scv : Memref Cert.KernelIdeal.sig Kind.scVector Space.hbm Cert.KernelIdeal.S2048x128 EltTy.f32)
local notation "sI" => (Memref.whole Cert.KernelIdeal.cc1_scratch0 : Memref Cert.KernelIdeal.sig Kind.scVector Space.vmem Cert.KernelIdeal.S128 EltTy.i32)
local notation "sR" => (Memref.whole Cert.KernelIdeal.cc1_scratch1 : Memref Cert.KernelIdeal.sig Kind.scVector Space.vmem Cert.KernelIdeal.S128x128 EltTy.f32)
local notation "sO" => (Memref.whole Cert.KernelIdeal.cc1_scratch2 : Memref Cert.KernelIdeal.sig Kind.scVector Space.vmem Cert.KernelIdeal.S64x128 EltTy.f32)

variable (m : (ℓ : Loc nD τ sig) → Buf (Elt F) ℓ)
variable (Tb : (d : Dev nD) → Buf (Elt F) (tLoc d)) (I : (d : Dev nD) → Buf (Elt F) (iLoc d))
variable [FloatOps F]

/-! ## The tile's place -/

section Tile

variable (d : Dev nD) (L : grid1.Coords)

/-- The worker that runs at mesh place `L`. -/
abbrev wL (L : grid1.Coords) : Fin 32 := wid (Fin.cast (show grid1.bound 0 = 2 from rfl) (L 0)) (Fin.cast (show grid1.bound 1 = 16 from rfl) (L 1))

abbrev irowK (L : grid1.Coords) : Rect S4096 := Rect.unit (s := S4096) (k1_off1 L) S128.size (k1_off1_inb L)
abbrev orowK (L : grid1.Coords) : Rect S2048x128 := Rect.unit (s := S2048x128) (k1_off26 L) S64x128.size (k1_off26_inb L)
/-- The tile's entries of the index list, its rows of the output, and all of the table, as the tile addresses them. -/
abbrev iRowK (L : grid1.Coords) : Memref sig .scVector .hbm S128 .i32 := (iV).slice (irowK L) (fun _ => rfl)
abbrev oRowK (L : grid1.Coords) : Memref sig .scVector .hbm S64x128 .f32 := (oV).slice (orowK L) (fun _ => rfl)
abbrev tAllK : Memref sig .scVector .hbm S1024x128 .f32 := (tV).slice (Rect.unit (s := S1024x128) ![0, 0] S1024x128.size inb_S1024x128_S1024x128_0_0) (fun _ => rfl)

theorem wL_val : (wL L).val = 2 * (L 1).val + (L 0).val := rfl

theorem irowK_eq : irowK L = irow (wL L) := by
  unfold irowK irow Rect.part Rect.block
  congr 1 <;> funext a
  · rw [k1_off1_eq]
    match a with
    | 0 =>
      have h := wL_val L
      simp [Shape.partIx, Shape.partSize]; omega
  · match a with
    | 0 => simp [Shape.partSize]
theorem orowK_eq : orowK L = orow (wL L) := by
  unfold orowK orow Rect.part Rect.block
  congr 1 <;> funext a
  · rw [k1_off26_eq]
    match a with
    | 0 =>
      have h := wL_val L
      simp [Shape.partIx, Shape.partSize]; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tAllK).view.loc (V d (cV L) (jV L)) ↦{q} f : sProp 𝕄) = tLoc d ↦{q} f := rfl

/-! ## The values the copies leave -/

/-- Entry `x` of a worker's part of the index list. -/
def fetched (I : S4096.Idx → BitVec 32) (w : Fin 32) : S128.Idx → BitVec 32 := fun x =>
  I fun | 0 => ⟨128 * w.val + (x 0).val, by have h : (x 0).val < 128 := (x 0).isLt; have := w.isLt; show _ < 4096; omega⟩

/-- The table's rows that a worker's entries name. -/
def gathered (Tb : S1024x128.Idx → F .f32) (I : S4096.Idx → BitVec 32) (w : Fin 32) : S128x128.Idx → F .f32 := fun j =>
  Tb fun | 0 => rowAt (fetched I w fun | 0 => j 0) | 1 => j 1

theorem fetched_eq (fs : Buf (Elt F) ((V d (cV L) (jV L)).loc cc1_scratch0)) (pay : S128.Idx → Elt F .i32)
    (hpay : pay = (iRowK L).view.read (Elt F) (I d)) :
    View.write (Elt F) (sI).view fs pay Finset.univ = fetched (I d) (wL L) := by
  subst hpay
  rw [View.write_whole_univ]
  funext x
  refine ((View.read_apply _ _).trans (cast_eq _ _)).trans ?_
  unfold fetched
  congr 1
  funext a
  apply Fin.ext
  match a with
  | 0 =>
    show k1_off1 L 0 + 1 * (x 0).val = 128 * (wL L).val + (x 0).val
    rw [k1_off1_eq, wL_val]
    show 256 * (L 1).val + 128 * (L 0).val + 1 * (x 0).val = _
    omega

theorem rowMajor_symm_S128 (k : Fin S128.numel) (x : S128.Idx) (h : (x 0).val = k.val) : S128.rowMajor.symm k = x := by
  rw [Equiv.symm_apply_eq]
  apply Fin.ext
  exact h.symm.trans (Shape.rowMajor_val_one (d := ![128]) x).symm

theorem fetched_lt (hI : InRows I) (x : S128.Idx) : (fetched (I d) (wL L) x).toNat < 1024 := hI d _

theorem gathered_eq (fr : Buf (Elt F) ((V d (cV L) (jV L)).loc cc1_scratch1)) (hI : InRows I) (hn : S128.numel = S128x128.size gathers_S1024x128_S128x128.axis')
    (hin : ∀ x, ((sI).view.read (Elt F) (fetched (I d) (wL L)) x).toNat < S1024x128.size gathers_S1024x128_S128x128.axis) :
    View.write (Elt F) (sR).view fr (SparseCore.gatherPayload gathers_S1024x128_S128x128 ((tAllK).view.read (Elt F) (Tb d))
      (SparseCore.rows ((sI).view.read (Elt F) (fetched (I d) (wL L))) hn hin)) Finset.univ = gathered (Tb d) (I d) (wL L) := by
  rw [View.write_whole_univ]
  funext j
  unfold SparseCore.gatherPayload gathered
  refine ((View.read_apply _ _).trans (cast_eq _ _)).trans ?_
  congr 1
  funext a
  apply Fin.ext
  match a with
  | 0 =>
    refine (Nat.zero_add _).trans ((Nat.one_mul _).trans ?_)
    refine (congrArg Fin.val (Shape.Gathers.idx_axis gathers_S1024x128_S128x128 _ _)).trans ?_
    show (fetched (I d) (wL L) (S128.rowMajor.symm _)).toNat = (fetched (I d) (wL L) _).toNat % 1024
    refine Eq.trans ?_ (Nat.mod_eq_of_lt (fetched_lt I d L hI _)).symm
    refine congrArg (fun x => (fetched (I d) (wL L) x).toNat) (rowMajor_symm_S128 _ _ ?_)
    rfl
  | 1 =>
    refine (Nat.zero_add _).trans ((Nat.one_mul _).trans ?_)
    exact Shape.Gathers.idx_of_ne gathers_S1024x128_S128x128 _ j 1 (by decide)

/-- The output's contents after the tile's copy: the tile's rows at the sums, told by the values `w` that the copy carries. -/
theorem out_eq (f0 : Buf (Elt F) (oLoc d)) (f' : S64x128.Idx → F .f32) (h : upTo (gathered (Tb d) (I d) (wL L)) 64 f')
    (w : S64x128.Idx → F .f32) (hw : w = f') :
    ∀ y ∈ oRowSet (wL L), (oRowK L).view.writes (Elt F) f0 [⟨Rect.whole S64x128, w⟩] y = gOut (Tb d) (I d) y := by
  subst hw
  intro y hy
  rw [← set_oRowK] at hy
  obtain ⟨x, -, rfl⟩ := Finset.mem_map.mp hy
  have hr : ∀ f : Buf (Elt F) (oLoc d), f ((oRowK L).view.emb x) = (oRowK L).view.read (Elt F) f x := fun f =>
    ((View.read_apply (v := (oRowK L).view) f x).trans (cast_eq _ _)).symm
  refine (hr _).trans ((View.read_writes_cons_hit_of_coords (oRowK L).view f0 (Rect.whole S64x128) w [] x x fun a => ?_).trans ?_)
  · show (x a).val = 0 + 1 * (x a).val; omega
  rw [h x (x 0).isLt]
  have e0 : ((oRowK L).view.emb x 0).val = 64 * (wL L).val + (x 0).val := by
    show k1_off26 L 0 + 1 * (x 0).val = _
    rw [k1_off26_eq, wL_val]
    show 128 * (L 1).val + 64 * (L 0).val + 1 * (x 0).val = _
    omega
  have e1 : ((oRowK L).view.emb x 1) = x 1 := by
    apply Fin.ext
    show k1_off26 L 1 + 1 * (x 1).val = _
    rw [k1_off26_eq]
    show 0 + 1 * (x 1).val = _
    omega
  unfold pairSum gOut gathered fetched
  congr 2 <;> funext a
  · match a with
    | 0 =>
      show rowAt (I d _) = rowAt (I d _)
      congr 2; funext b
      match b with
      | 0 => apply Fin.ext; show 128 * (wL L).val + 2 * (x 0).val = 2 * ((oRowK L).view.emb x 0).val; omega
    | 1 => exact e1.symm
  · match a with
    | 0 =>
      show rowAt (I d _) = rowAt (I d _)
      congr 2; funext b
      match b with
      | 0 => apply Fin.ext; show 128 * (wL L).val + (2 * (x 0).val + 1) = 2 * ((oRowK L).view.emb x 0).val + 1; omega
    | 1 => exact e1.symm

end Tile

end Cert.Proof.Run

end
-- ==== Proof.TileBody.lean ====
/-
  One tile's task as the launch asks for it: from the worker's parts of the index list, the table and the output to the
  same parts back, the output's rows at the sums.
-/
module

public import proofs.«01_k».proof.Proof.TileValues

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v6_scv : Memref Cert.KernelIdeal.sig Kind.scVector Space.hbm Cert.KernelIdeal.S1024x128 EltTy.f32)
local notation "iV" => (Memref.whole Cert.KernelIdeal.main_v9_scv : Memref Cert.KernelIdeal.sig Kind.scVector Space.hbm Cert.KernelIdeal.S4096 EltTy.i32)
local notation "oV" => (Memref.whole Cert.KernelIdeal.main_v10_scv : Memref Cert.KernelIdeal.sig Kind.scVector Space.hbm Cert.KernelIdeal.S2048x128 EltTy.f32)
local notation "sI" => (Memref.whole Cert.KernelIdeal.cc1_scratch0 : Memref Cert.KernelIdeal.sig Kind.scVector Space.vmem Cert.KernelIdeal.S128 EltTy.i32)
local notation "sR" => (Memref.whole Cert.KernelIdeal.cc1_scratch1 : Memref Cert.KernelIdeal.sig Kind.scVector Space.vmem Cert.KernelIdeal.S128x128 EltTy.f32)
local notation "sO" => (Memref.whole Cert.KernelIdeal.cc1_scratch2 : Memref Cert.KernelIdeal.sig Kind.scVector Space.vmem Cert.KernelIdeal.S64x128 EltTy.f32)

variable (m : (ℓ : Loc nD τ sig) → Buf (Elt F) ℓ)
variable (Tb : (d : Dev nD) → Buf (Elt F) (tLoc d)) (I : (d : Dev nD) → Buf (Elt F) (iLoc d))
variable [FloatOps F]

/-! ## The tile's own buffers and semaphores -/

section Tile

variable (d : Dev nD) (L : grid1.Coords)

abbrev cGcell (d : Dev nD) (c : Fin τ.nSC) (i : Fin τ.nSub) : GSem nD τ sig := (V d c i, .dma cc1_scratch3.sem)
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc1_scratch3.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc1_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc1_scoped1.sem : SemLoc sig).isScoped .scVector = true; decide⟩⟩⟩)]

/-- The three scratch buffers are among the tile's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The tile's body -/

/-- What the loop keeps: the gathered rows, and the output scratch with the rows before `n` summed. -/
abbrev loopInv (R : S128x128.Idx → F .f32) (n : ℕ) (_ : BitVec 32) : sProp 𝕄 :=
  iprop(((V d (cV L) (jV L)).loc cc1_scratch1 ↦{fullShare} R) ∗ ∃ f', ⌜upTo R n f'⌝ ∗ ((V d (cV L) (jV L)).loc cc1_scratch2 ↦{fullShare} f'))

theorem loop_step (R : S128x128.Idx → F .f32) (k : Fin k1_t1_loop.trips) (acc : BitVec 32) :
    loopInv d L R k.val acc ⊢ (wp frame (wpE (defs₀ (F := F)) 𝒱₀ (V d (cV L) (jV L)) none) Set.univ
          (k1_t1_body L tV (Memref.isWhole_whole _) iV (Memref.isWhole_whole _) oV (Memref.isWhole_whole _)
            sI (Memref.isWhole_whole _) sR (Memref.isWhole_whole _) sO (Memref.isWhole_whole _) cc1_scratch3 cc1_scoped0 cc1_scoped1 k acc)
          (loopInv d L R (k.val + 1)) : sProp 𝕄) := by
  iintro ⟨HR, %f, %hf, HO⟩
  iapply (trip d L R f k acc hf)
  isplitl [HR]; · iexact HR
  iexact HO

set_option maxHeartbeats 4000000 in
/-- The task of worker `wL L`: its entries fetched, the rows they name gathered, the pairs summed, the sums copied out. -/
theorem tile_body (hF : (K (F := F)).Facts) (hI : InRows I) (O : CellTallies nD τ sig (HIx 1)) (W : Waits sig (HIx 1)) (hO : ∀ g, O g none = 0) :
    iprop(levAts (K (F := F)).L (K (F := F)).lev ∗ emp
        ∗ (iRowPts I d (wL L) ∗ tShPts Tb d (wL L) ∗ oRowPts d (wL L) (m (oLoc d)))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1_gather L tV (Memref.isWhole_whole _) iV (Memref.isWhole_whole _) oV (Memref.isWhole_whole _)
            sI (Memref.isWhole_whole _) sR (Memref.isWhole_whole _) sO (Memref.isWhole_whole _) cc1_scratch3 cc1_scoped0 cc1_scoped1)
          fun _ => iprop((iRowPts I d (wL L) ∗ tShPts Tb d (wL L) ∗ oRowPts d (wL L) (gOut (Tb d) (I d)))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc1_gather_eq_skeleton]; unfold cc1_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, HI⟩, ⟨%fr, HR⟩, ⟨%fo, HS⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (pts_iRowK (F := F) d L _).symm) $$ Hi
  ihave Ho := (Entails.of_eq (pts_oRowK (F := F) d L _).symm) $$ Ho
  ihave Ht := (Entails.of_eq (pts_tV (F := F) d L _ _).symm) $$ Ht
  ihave HI := (Entails.of_eq (pts_sI (F := F) d L _).symm) $$ HI
  ihave HR := (Entails.of_eq (pts_sR (F := F) d L _).symm) $$ HR
  ihave HS := (Entails.of_eq (pts_sO (F := F) d L _).symm) $$ HS
  sl_exec
  ihave HI := (Entails.of_eq (congrArg (fun f => ((sI).view.loc (V d (cV L) (jV L)) ↦{fullShare} f : sProp 𝕄)) (fetched_eq I d L fs (tile_body.sl.dma0 I d L) rfl))) $$ HI
  have hin : ∀ x, ((sI).view.read (Elt F) (fetched (I d) (wL L)) x).toNat < S1024x128.size gathers_S1024x128_S128x128.axis := fun x => hI d _
  have hN : ∀ h : S1024x128.Gathers 0 S128x128, ∑ j, ((sR).slice (S128x128.rowRect h.axis' j) (S128x128.stride_rowRect h.axis' j)).view.dmaCredit
      = (sR).view.dmaCredit := by decide
  iapply (SparseCore.wp_gatherFromWhole countersEmb 𝒱₀ (V d (cV L) (jV L)) none (hg := gathers_S1024x128_S128x128) (default : HIx 1)
      (sR).view.dmaCredit (hN _) (by decide) hin) $$ [Ht HR HI HsemG]
  · isplitl [Ht]; · iexact Ht
    isplitl [HR]; · iexact HR
    isplitl [HI]; · iexact HI
    iexact HsemG
  iintro Hfl
  sl_exec
  iapply (Transfers.wp_waitLocalO countersEmb 𝒱₀ (V d (cV L) (jV L)) none (default : HIx 1) (rfl : (sR).view.dmaCredit = _)) $$ [Hfl HO]
  · isplitl [Hfl]; · iexact Hfl
    isplitl [HO]; · iexact HO
    iapply (Transfers.MayWaits.elim (SemLoc.dma cc1_scratch3.sem)) $$ Hmw
  iintro ⟨⟨HR, Ht, HI⟩, HsemG, HO⟩
  ihave HR := (Entails.of_eq (congrArg (fun f => ((sR).view.loc (V d (cV L) (jV L)) ↦{fullShare} f : sProp 𝕄)) (gathered_eq Tb I d L fr hI rfl hin))) $$ HR
  ihave HR := (Entails.of_eq (pts_sR (F := F) d L _)) $$ HR
  ihave HS := (Entails.of_eq (pts_sO (F := F) d L _)) $$ HS
  sl_step
  iapply (Scf.wp_for_bind frame (wpE (defs₀ (F := F)) 𝒱₀ (V d (cV L) (jV L)) none) Set.univ _ _ _ k1_t1_ok _ _
    (loopInv d L (gathered (Tb d) (I d) (wL L))) (loop_step d L (gathered (Tb d) (I d) (wL L)))) $$ [HR HS]
  · isplitl [HR]; · iexact HR
    iexists fo; isplitr
    · ipureintro; exact fun j hj => absurd hj (Nat.not_lt_zero _)
    iexact HS
  iintro %acc ⟨HR, %f', %hf', HS⟩
  ihave HR := (Entails.of_eq (pts_sR (F := F) d L _).symm) $$ HR
  ihave HS := (Entails.of_eq (pts_sO (F := F) d L _).symm) $$ HS
  sl_exec
  sl_step
  isplitl [Hi Ht Ho]
  · isplitl [Hi]; · iapply (Entails.of_eq (pts_iRowK (F := F) d L _)); iexact Hi
    isplitl [Ht]; · iapply (Entails.of_eq (pts_tV (F := F) d L _ _)); iexact Ht
    iapply (Entails.of_eq ((pts_oRowK (F := F) d L _).trans (pointsTo_congr (out_eq Tb I d L (m (oLoc d)) f' hf' (tile_body.sl.dma0_1 f') rfl)))); iexact Ho
  isplitl [HI HR HS Hbufs]
  · isplitl [HI]; · iexists _; iexact HI
    isplitl [HR]; · iexists _; iexact HR
    isplitl [HS]; · iexists _; iexact HS
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The mesh place of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          sI (Memref.isWhole_whole _) sR (Memref.isWhole_whole _) sO (Memref.isWhole_whole _) cc1_scratch3 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : InRows I) : (K (F := F)).TileObl (D (F := F)) 𝒱 (P m Tb I) v₀ 0 := by
  intro d c i O W hO _ _
  simp only [show (P m Tb I).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m Tb I d (coordsV ⟨_, hci.1⟩ ⟨_, hci.2⟩) hF hI O W hO).trans (wp_mono frame _ _ fun _ => obl_post)

end Tile

end Cert.Proof.Run

end
-- ==== Proof.Main.lean ====
/-
  The program's run: @main's chain of host operations and calls on the TensorCore, the launch, and the run's end: every
  unscoped buffer holds what the chain of contents of HostOps says, every semaphore zero.
-/
module

public import proofs.«01_k».proof.Proof.HostOps
public import proofs.«01_k».proof.Proof.TileBody

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation cellOf)

variable {F : FTy → Type}

local notation "𝕄" => MT nD τ sig (HIx 1) (Elt F) ℕ UU ℕ
variable [FloatOps F]

/-! ## The SparseCore call's buffers, cut into the workers' parts -/

section Split

variable (m : (ℓ : Loc nD τ sig) → Buf (Elt F) ℓ)
variable (Tb : (d : Dev nD) → Buf (Elt F) (tLoc d)) (I : (d : Dev nD) → Buf (Elt F) (iLoc d))

omit [FloatOps F] in
theorem iRowSet_eq (w : Fin 32) : iRowSet w = (irow w).set := by
  show ((View.whole (main_v9_scv : Ref sig .scVector)).slice (irow w)).set = _
  rw [View.set_slice]; exact Finset.map_refl
omit [FloatOps F] in
theorem oRowSet_eq (w : Fin 32) : oRowSet w = (orow w).set := by
  show ((View.whole (main_v10_scv : Ref sig .scVector)).slice (orow w)).set = _
  rw [View.set_slice]; exact Finset.map_refl

omit [FloatOps F] in
theorem i_parts (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun i _ j _ h => by
      rw [iRowSet_eq, iRowSet_eq]; exact Rect.part_disjoint idiv h,
    show (Finset.univ : Finset (Fin 32)).biUnion iRowSet = Finset.univ from
      (Finset.biUnion_congr rfl fun i _ => iRowSet_eq i).trans (Rect.biUnion_part idiv)]
  try rfl
omit [FloatOps F] in
theorem o_parts (d : Dev nD) (f : Buf (Elt F) (oLoc d)) :
    (oLoc d ↦{fullShare} f : sProp 𝕄) = bigSep Finset.univ fun w : Fin 32 => oRowPts d w f := by
  rw [← pointsTo_biUnion Finset.univ (ℓ := oLoc d) oRowSet fun i _ j _ h => by
      rw [oRowSet_eq, oRowSet_eq]; exact Rect.part_disjoint odiv h,
    show (Finset.univ : Finset (Fin 32)).biUnion oRowSet = Finset.univ from
      (Finset.biUnion_congr rfl fun i _ => oRowSet_eq i).trans (Rect.biUnion_part odiv)]
  try rfl
omit [FloatOps F] in
theorem t_parts (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- The two SparseCores' sixteen workers each are the thirty-two. -/
theorem by_worker (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, bigSep_univ_prod]
  rfl

/-- What the call takes is the three buffers whole, -/
theorem st_eq (d : Dev nD) : (bigSep Finset.univ fun c : Fin ((K (F := F)).nCore 0) => (P m Tb I).st 0 d c)
    = iprop((iLoc d ↦{fullShare} I d) ∗ (tLoc d ↦{fullShare} Tb d) ∗ oLoc d ↦{fullShare} m (oLoc d)) := by
  rw [i_parts, t_parts, o_parts, ← bigSep_sep', ← bigSep_sep']
  exact by_worker fun w => wIn m Tb I d w
/-- and what it brings back is them whole, the output at `gOut`. -/
theorem dn_eq (d : Dev nD) : (bigSep Finset.univ fun c : Fin ((K (F := F)).nCore 0) => (P m Tb I).dn 0 d c)
    = iprop((iLoc d ↦{fullShare} I d) ∗ (tLoc d ↦{fullShare} Tb d) ∗ oLoc d ↦{fullShare} gOut (Tb d) (I d)) := by
  rw [i_parts, t_parts, o_parts, ← bigSep_sep', ← bigSep_sep']
  exact by_worker fun w => wOut Tb I d w

end Split

variable (m : (ℓ : Loc nD τ sig) → Buf (Elt F) ℓ) (ρ : Dev nD → PrngReg)

/-- The table and the index list as the SparseCore call finds them. -/
abbrev tabAt (d : Dev nD) : Buf (Elt F) (tLoc d) := V3 m d (Proc.devRef .tc main_v6)
abbrev listAt (d : Dev nD) : Buf (Elt F) (iLoc d) := V3 m d (Proc.devRef .tc main_v9)

/-- The call's three buffers among all. -/
abbrev three : Finset (DevRef τ sig) := {Proc.devRef .tc main_v9, Proc.devRef .tc main_v6, Proc.devRef .tc main_v10}

theorem three_sub : three ⊆ Pipeline.ucRefs τ sig := by decide

omit [FloatOps F] in
theorem held_three (d : Dev nD) (W : Valuation τ sig (Elt F)) :
    (StableHlo.held (d.tc : Thread nD τ) three W : sProp 𝕄)
      = iprop((iLoc d ↦{fullShare} W (Proc.devRef .tc main_v9)) ∗ (tLoc d ↦{fullShare} W (Proc.devRef .tc main_v6)) ∗ oLoc d ↦{fullShare} W (Proc.devRef .tc main_v10)) := by
  unfold StableHlo.held three
  rw [SparseCore.bigSep_insert' (by decide), SparseCore.bigSep_insert' (by decide), bigSep_singleton]

theorem split3 (d : Dev nD) : (StableHlo.held (d.tc : Thread nD τ) (Pipeline.ucRefs τ sig) (V3 m d) : sProp 𝕄)
    = iprop((bigSep Finset.univ fun c : Fin ((K (F := F)).nCore 0) => (P m (tabAt m) (listAt m)).st 0 d c)
        ∗ StableHlo.held (d.tc : Thread nD τ) (Pipeline.ucRefs τ sig \ three) (V3 m d)) := by
  rw [st_eq, StableHlo.held_sub_split (d.tc : Thread nD τ) three_sub, held_three, V3_v10]

theorem split4 (d : Dev nD) : (StableHlo.held (d.tc : Thread nD τ) (Pipeline.ucRefs τ sig) (V4 m d) : sProp 𝕄)
    = iprop((bigSep Finset.univ fun c : Fin ((K (F := F)).nCore 0) => (P m (tabAt m) (listAt m)).dn 0 d c)
        ∗ StableHlo.held (d.tc : Thread nD τ) (Pipeline.ucRefs τ sig \ three) (V3 m d)) := by
  have hrest : (StableHlo.held (d.tc : Thread nD τ) (Pipeline.ucRefs τ sig \ three) (V4 m d) : sProp 𝕄)
      = StableHlo.held (d.tc : Thread nD τ) (Pipeline.ucRefs τ sig \ three) (V3 m d) :=
    StableHlo.held_congr _ fun b hb => Function.update_of_ne (fun h => by subst h; exact absurd hb (by decide)) _ _
  rw [dn_eq, StableHlo.held_sub_split (d.tc : Thread nD τ) three_sub, hrest, held_three, V4_of_ne m d main_v9 (by decide),
    V4_of_ne m d main_v6 (by decide), show V4 m d (Proc.devRef .tc main_v10) = gOut (tabAt m d) (listAt m d) from Function.update_self ..]

/-! ## The ghost state at launch -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The pipeline's ghost state on device `d`. -/
abbrev G (d : Dev nD) : sProp 𝕄 :=
  iprop((bigSep Finset.univ fun p : Fin 1 => Pipeline.cellsGhost (Pipeline.pin (pcfgs (F := F)) adm) (EP (F := F)) p d)
    ∗ (bigSep Finset.univ fun p : Fin 1 => Pipeline.toksInit (Pipeline.pin (pcfgs (F := F)) adm) (EP (F := F)) p d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (tabAt m) (listAt m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb embR (initOf (Pipeline.cells (nD := nD) (τ := τ) cfgs cellOf_inj) (Pipeline.launchToks (nD := nD) (τ := τ) cfgs cellOf_inj)) (1 : Counters)) $$ HR
  icases H with ⟨HP, -⟩
  ihave H := (show BI.own (((Emb.inl : Emb UP (UP × Counters)).trans embR) (initOf (Pipeline.cells (nD := nD) (τ := τ) cfgs cellOf_inj) (Pipeline.launchToks (nD := nD) (τ := τ) cfgs cellOf_inj)))
      ⊢ (iprop(|==> ((bigSep Finset.univ fun c : Dev nD => bigSep Finset.univ fun p => Pipeline.cellsGhost cfgs (EP (F := F)) p c)
          ∗ (bigSep Finset.univ fun c : Dev nD => bigSep Finset.univ fun p => Pipeline.toksInit cfgs (EP (F := F)) p c))) : sProp 𝕄) from
    Pipeline.fund_ghost cfgs (EP (F := F)) cellOf_inj) $$ HP
  imod H
  icases H with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 1 => (P m (tabAt m) (listAt m)).x q thr) = bigSep Finset.univ fun _ => iprop(emp) from
    bigSep_congr fun _ _ => bigSep_univ_of_subsingleton (0 : Fin 1),
    show (bigSep (Finset.univ : Finset (Thread nD τ)) fun _ => iprop(emp)) = (iprop(emp) : sProp 𝕄) from bigSep_emp_const _]
  iempintro

/-! ## @main on the TensorCore -/

abbrev FIN (d : Dev nD) : sProp 𝕄 := StableHlo.held (d.tc : Thread nD τ) (Pipeline.ucRefs τ sig) (V5 m d)

/-- The thread's state between calls, without what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

omit [FloatOps F] in
theorem tcSt_zero (d : Dev nD) : ((K (F := F)).tcSt EH d 0 : sProp 𝕄) = iprop(R d ∗ tcRest d) := rfl

omit [FloatOps F] in
theorem G_one (d : Dev nD) : G (F := F) d
    = iprop(Pipeline.cellsGhost (Pipeline.pin (pcfgs (F := F)) adm) (EP (F := F)) 0 d ∗ Pipeline.toksInit (Pipeline.pin (pcfgs (F := F)) adm) (EP (F := F)) 0 d) := by
  unfold G
  rw [bigSep_univ_of_subsingleton (0 : Fin 1), bigSep_univ_of_subsingleton (0 : Fin 1)]

/-- The TensorCore call: from the contents `V1` to `V2`. -/
theorem region_wp [∀ e, Nonempty (Elt F e)] (d : Dev nD) (Q : PUnit → sProp 𝕄) :
    iprop((iprop(boundary (d.tc : Thread nD τ) ∗ StableHlo.held (d : Thread nD τ) (Pipeline.ucRefs τ sig) (V2 m d) ∗ R d) -∗ Q ⟨⟩)
        ∗ boundary (d.tc : Thread nD τ) ∗ (StableHlo.held (d : Thread nD τ) (Pipeline.ucRefs τ sig) (V1 m d) ∗ R d)
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (d.tc : Thread nD τ) none) Set.univ (Prog.lift (.customCall (Pipeline.entry 0) ())) Q := by
  have h := Pipeline.RegionSeg.wp (pcfgs (F := F)) adm (dats (V1 m)) none cellOf_inj (EP (F := F)) defs₀ 𝒱₀ (K (F := F)).L (K (F := F)).lev
    (reg0 (V1 m)) d none (fun _ h => nomatch h) (fun _ => .ret ⟨⟩) Q
  refine BI.Entails.trans ?_ h
  rw [show (reg0 (V1 m)).post d = iprop(StableHlo.held (d : Thread nD τ) (Pipeline.ucRefs τ sig) (V2 m d) ∗ R d) from rfl,
    show (reg0 (V1 m)).pre d = iprop(StableHlo.held (d : Thread nD τ) (Pipeline.ucRefs τ sig) (V1 m d) ∗ R d) from rfl]
  show (_ : sProp 𝕄) ⊢ _
  iintro ⟨Hk, Hb, Hpre, Hl, Hc, Ht⟩
  isplitl [Hk]
  · iintro H
    rw [show ∀ Q, (wp frame (wpE (D (F := F)) 𝒱 (d.tc : Thread nD τ) none) Set.univ (Prog.ret PUnit.unit) Q) = _ from fun Q => wp_pure ..]
    imodintro
    iapply Hk
    iexact H
  isplitl [Hb]; · iexact Hb
  isplitl [Hpre]; · iexact Hpre
  isplitl [Hl]; · iexact Hl
  isplitl [Hc]; · iexact Hc
  iexact Ht

set_option maxHeartbeats 400000 in
theorem hmain [∀ e, Nonempty (Elt F e)] (κ : GSem nD τ sig → ℕ) (d : Dev nD) :
    iprop((K (F := F)).ctx EH (P m (tabAt m) (listAt m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hub, Hts, -⟩, HG⟩
  ihave Hh := (show (unscopedBufs d (fun b => m ((SparseCore.T d).loc b)) : sProp 𝕄) ⊢ StableHlo.held (d.tc : Thread nD τ) (Pipeline.ucRefs τ sig) (V0 m d) from
    Entails.of_eq (Pipeline.unscopedBufs_held d (V0 m d))) $$ Hub
  -- the host operations before the TensorCore call
  iapply (StableHlo.wp_seq 𝒱 none Set.univ d (Pipeline.ucRefs τ sig) _ ops1 sub1 fresh1 (V0 m d)) $$ [Hb Hh]
  · isplitl [Hb]; · iexact Hb
    iexact Hh
  iintro ⟨Hb, Hh⟩
  -- the TensorCore call
  rw [wp_bind]
  iapply ((K (F := F)).wp_liftProg (D (F := F)) 𝒱 (SparseCore.T d) Set.univ none
    (Prog.lift (.customCall (Pipeline.entry 0) ())) _)
  ihave Hst := (Entails.of_eq (tcSt_zero (F := F) d)) $$ Hst
  icases Hst with ⟨HO, Hst⟩
  ihave HG := (Entails.of_eq (G_one (F := F) d)) $$ HG
  icases HG with ⟨Hc, Ht⟩
  ihave Hlev := ((K (F := F)).ctx_levAts κ) $$ Hctx
  iapply (region_wp m d _)
  isplitr [Hb Hh HO Hc Ht]
  swap
  · isplitl [Hb]; · iexact Hb
    isplitl [Hh HO]
    · isplitl [Hh]; · iexact Hh
      iexact HO
    isplitr; · iexact Hlev
    isplitl [Hc]; · iexact Hc
    iexact Ht
  iintro ⟨Hb, Hh, HO⟩
  ihave Hst := (Entails.of_eq (tcSt_zero (F := F) d).symm) $$ [HO Hst]
  · isplitl [HO]; · iexact HO
    iexact Hst
  -- the reshape of the row numbers
  iapply (StableHlo.wp_seq 𝒱 none Set.univ d (Pipeline.ucRefs τ sig) _ ops2 sub2 fresh2 (V2 m d)) $$ [Hb Hh]
  · isplitl [Hb]; · iexact Hb
    iexact Hh
  iintro ⟨Hb, Hh⟩
  -- the SparseCore call
  ihave Hh := (show (StableHlo.held (d.tc : Thread nD τ) (Pipeline.ucRefs τ sig) (StableHlo.after ops2 (V2 m d)) : sProp 𝕄) ⊢ _ from Entails.of_eq (split3 m d)) $$ Hh
  icases Hh with ⟨Hin, Hrest⟩
  rw [wp_bind]
  iapply ((K (F := F)).wp_run (D (F := F)) 𝒱 (EH := EH) (P := P m (tabAt m) (listAt m)) κ d 0) $$ [Hst Hin Hrest Hb Hts]
  isplitr; · iexact Hctx
  isplitl [Hst]; · iexact Hst
  isplitl [Hin]; · iexact Hin
  iintro ⟨Hst, Hout⟩
  ihave Hh := (Entails.of_eq (split4 m d).symm) $$ [Hout Hrest]
  · isplitl [Hout]; · iexact Hout
    iexact Hrest
  -- the last reshapes
  iapply (StableHlo.wp_seq 𝒱 none Set.univ d (Pipeline.ucRefs τ sig) _ ops3 sub3 fresh3 (V4 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb]; · iexact Hb
  iexact Hts

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  iapply (SI_pointsTo_bufs_agree (st := s') (c := d) (qs := fun _ => fullShare) (F := V5 m d) (Pipeline.ucRefs τ sig))
  isplitl [HSI]; · iexact HSI
  iexact Hh

/-- The run's end: every unscoped buffer at the contents computed, every semaphore zero. -/
def QC : PUnit × MemSt nD τ sig (Elt F) → Prop := fun r =>
  (∀ d : Dev nD, ∀ b ∈ Pipeline.ucRefs τ sig, r.2.mem (d, b) = V5 m d b) ∧ r.2.sem = fun _ => 0

theorem run_main [∀ e, Nonempty (Elt F e)] (hI : InRows (listAt m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (tabAt m) (listAt m)) (A := ∅) facts v₀
    (fun q hq => match q with | 0 => nomatch hq)
    (fun q _ => match q with | 0 => tileObl m (tabAt m) (listAt m) facts hI)
    (fun q _ => match q with | 0 => SparseCore.Cfg.VecSplit.of_plain (vecSplit m (tabAt m) (listAt m)))
    m ρ main (G (F := F)) (FIN m) (u₀ (F := F)) (sep_elim_left.trans (hu₀ m)) (hmain m ρ) (fq m) (hfin m) (QC m) (fun _ h hz => ⟨h, hz⟩)

end Cert.Proof.Run

end
-- ==== Proof.Spec.lean ====
/-
  The mathematics both programs share, over the extended reals: a row's maximum, the first lane that attains it, the
  row's softmax; and the two ways a program finds that lane: as the least of the lanes' numbers where the maximum is
  attained, and by a fold over (value, lane) pairs that keeps the greater value, the lesser lane at a tie.
-/
module

public import Idealize.ShloMosaic.Lib.Pointwise

@[expose] public section

noncomputable section

namespace Cert.Proof.Value

open Idealize.ShloMosaic

/-- A row's maximum. -/
def top (r : Fin 512 → EReal) : EReal := Finset.univ.fold max ⊥ r

theorem le_top (r : Fin 512 → EReal) (v : Fin 512) : r v ≤ top r :=
  (Finset.le_fold_max (r v)).2 (Or.inr ⟨v, Finset.mem_univ v, le_refl _⟩)

theorem top_le {r : Fin 512 → EReal} {c : EReal} (h : ∀ v, r v ≤ c) : top r ≤ c :=
  (Finset.fold_max_le c).2 ⟨bot_le, fun v _ => h v⟩

theorem exists_top (r : Fin 512 → EReal) : ∃ v, r v = top r := by
  obtain ⟨v, -, hv⟩ := Finset.exists_max_image Finset.univ r ⟨0, Finset.mem_univ _⟩
  exact ⟨v, le_antisymm (le_top r v) (top_le fun u => hv u (Finset.mem_univ u))⟩

/-- The lanes that attain the maximum. -/
def tops (r : Fin 512 → EReal) : Finset (Fin 512) := Finset.univ.filter fun v => r v = top r

theorem tops_nonempty (r : Fin 512 → EReal) : (tops r).Nonempty :=
  (exists_top r).imp fun v hv => Finset.mem_filter.2 ⟨Finset.mem_univ v, hv⟩

/-- The first of them. -/
def firstMax (r : Fin 512 → EReal) : Fin 512 := (tops r).min' (tops_nonempty r)

theorem at_firstMax (r : Fin 512 → EReal) : r (firstMax r) = top r :=
  (Finset.mem_filter.1 ((tops r).min'_mem (tops_nonempty r))).2

theorem firstMax_le {r : Fin 512 → EReal} {v : Fin 512} (h : r v = top r) : firstMax r ≤ v :=
  (tops r).min'_le v (Finset.mem_filter.2 ⟨Finset.mem_univ v, h⟩)

/-- A row's softmax. -/
def soft (r : Fin 512 → EReal) (v : Fin 512) : EReal := Ideal.div (Ideal.exp (r v - top r)) (∑ u, Ideal.exp (r u - top r))

/-! ## Lane numbers as words -/

theorem toInt_lane {n : ℕ} (h : n ≤ 512) : (BitVec.ofNat 32 n).toInt = n := by
  rw [BitVec.toInt_eq_toNat_cond, BitVec.toNat_ofNat]
  omega

theorem toInt_minsi (a b : BitVec 32) : (IntOp.minsi a b).toInt = min a.toInt b.toInt := by
  unfold IntOp.minsi
  simp only [BitVec.slt_eq_decide, BitVec.sle_eq_decide, decide_eq_true_eq]
  split <;> omega

theorem toInt_fold {ι : Type} [DecidableEq ι] (s : Finset ι) (b : BitVec 32) (f : ι → BitVec 32) :
    (s.fold IntOp.minsi b f).toInt = s.fold min b.toInt fun i => (f i).toInt := by
  induction s using Finset.induction_on with
  | empty => rfl
  | insert a s ha ih => rw [Finset.fold_insert ha, Finset.fold_insert ha, toInt_minsi, ih]

/-- The least lane number where the maximum is attained is the first such lane. -/
theorem least_lane (r : Fin 512 → EReal) :
    (Finset.univ.fold IntOp.minsi 2147483647#32 fun v : Fin 512 => if r v = top r then BitVec.ofNat 32 v.val else 512#32)
      = BitVec.ofNat 32 (firstMax r).val := by
  refine BitVec.eq_of_toInt_eq ?_
  rw [toInt_fold, toInt_lane (firstMax r).isLt.le]
  refine le_antisymm ((Finset.fold_min_le _).2 (Or.inr ⟨firstMax r, Finset.mem_univ _, ?_⟩)) ((Finset.le_fold_min _).2 ⟨?_, fun v _ => ?_⟩)
  · rw [if_pos (at_firstMax r), toInt_lane (firstMax r).isLt.le]
  · have := (firstMax r).isLt
    rw [show (2147483647#32).toInt = 2147483647 from rfl]; omega
  · split
    · rename_i h
      have := Fin.le_def.1 (firstMax_le h)
      rw [toInt_lane v.isLt.le]; omega
    · have := (firstMax r).isLt
      rw [show (512#32).toInt = 512 from rfl]; omega

/-! ## The fold over pairs -/

/-- Of two (value, lane) pairs the one of greater value, or of lesser lane at equal values. -/
def better (p q : EReal × BitVec 32) : EReal × BitVec 32 :=
  if q.1 < p.1 ∨ (p.1 = q.1 ∧ p.2.toInt < q.2.toInt) then p else q

theorem better_mem (p q : EReal × BitVec 32) : better p q = p ∨ better p q = q := by
  unfold better; split
  · exact .inl rfl
  · exact .inr rfl

/-- `p` is at least as good as `q`. -/
def Beats (p q : EReal × BitVec 32) : Prop := q.1 ≤ p.1 ∧ (q.1 = p.1 → p.2.toInt ≤ q.2.toInt)

theorem Beats.trans {p q r : EReal × BitVec 32} (h : Beats p q) (h' : Beats q r) : Beats p r :=
  ⟨h'.1.trans h.1, fun e => by
    have e1 : r.1 = q.1 := le_antisymm h'.1 (e ▸ h.1)
    exact (h.2 (e1 ▸ e)).trans (h'.2 e1)⟩

theorem better_beats (p q : EReal × BitVec 32) : Beats (better p q) p ∧ Beats (better p q) q := by
  unfold better Beats; split
  · rename_i h
    refine ⟨⟨le_refl _, fun _ => le_refl _⟩, ?_⟩
    rcases h with h | ⟨h, h'⟩
    · exact ⟨h.le, fun e => absurd e h.ne⟩
    · exact ⟨h.ge, fun _ => h'.le⟩
  · rename_i h
    rw [not_or, not_lt, not_and, not_lt] at h
    exact ⟨⟨h.1, fun e => h.2 e⟩, le_refl _, fun _ => le_refl _⟩

theorem foldl_better : ∀ (L : List (EReal × BitVec 32)) (a : EReal × BitVec 32),
    (L.foldl better a = a ∨ L.foldl better a ∈ L) ∧ Beats (L.foldl better a) a ∧ ∀ q ∈ L, Beats (L.foldl better a) q
  | [], a => ⟨.inl rfl, ⟨le_refl _, fun _ => le_refl _⟩, fun _ h => nomatch h⟩
  | p :: L, a => by
    obtain ⟨h1, h2, h3⟩ := foldl_better L (better a p)
    rw [List.foldl_cons]
    refine ⟨?_, h2.trans (better_beats a p).1, fun q hq => ?_⟩
    · rcases h1 with h1 | h1
      · rw [h1]
        rcases better_mem a p with h | h
        · exact .inl h
        · rw [h]; exact .inr List.mem_cons_self
      · exact .inr (List.mem_cons_of_mem _ h1)
    · rcases List.mem_cons.1 hq with rfl | hq
      · exact h2.trans (better_beats a q).2
      · exact h3 q hq

/-- Over a list holding the row's (value, lane) pairs and nothing else, from (-∞, 0), the fold ends at the first lane
    that attains the maximum. -/
theorem foldl_firstMax (r : Fin 512 → EReal) (L : List (EReal × BitVec 32))
    (hL : ∀ p, p ∈ L ↔ ∃ v : Fin 512, p = (r v, BitVec.ofNat 32 v.val)) :
    (L.foldl better (⊥, 0#32)).2 = BitVec.ofNat 32 (firstMax r).val := by
  obtain ⟨h1, h2, h3⟩ := foldl_better L (⊥, 0#32)
  generalize L.foldl better (⊥, 0#32) = p at h1 h2 h3 ⊢
  have hb : ∀ v : Fin 512, Beats p (r v, BitVec.ofNat 32 v.val) := fun v => h3 _ ((hL _).2 ⟨v, rfl⟩)
  rcases h1 with rfl | h1
  · have hall : ∀ v, r v = ⊥ := fun v => le_bot_iff.1 (hb v).1
    have htop : top r = ⊥ := le_bot_iff.1 (top_le fun v => (hall v).le)
    have h0 : firstMax r ≤ 0 := firstMax_le ((hall 0).trans htop.symm)
    rw [show firstMax r = 0 from le_antisymm h0 (Fin.zero_le _)]
    rfl
  · obtain ⟨v, rfl⟩ := (hL p).1 h1
    have hv : r v = top r := le_antisymm (le_top r v) (top_le fun u => (hb u).1)
    have h4 := (hb (firstMax r)).2 ((at_firstMax r).trans hv.symm)
    rw [toInt_lane v.isLt.le, toInt_lane (firstMax r).isLt.le] at h4
    have h5 := Fin.le_def.1 (firstMax_le hv)
    rw [show v = firstMax r from Fin.ext (by omega)]

/-! ## The constants -/

theorem negInf : Ideal.ofBits .f32 0xFF800000#32 = ⊥ := by
  simp [Ideal.ofBits, Ideal.ieee]

/-- One over the number of rows. -/
def inv2048 : ℝ := 1 / 2048

theorem inv2048_bits : Ideal.ofBits .f32 0x3A000000#32 = (inv2048 : EReal) := by
  simp [Ideal.ofBits, Ideal.ieee, inv2048]
  rw [← EReal.coe_mul]
  norm_num

theorem div_2048 (x : EReal) : Ideal.div x (Ideal.ofBits .f32 0x45000000#32) = x * (inv2048 : EReal) := by
  have h : Ideal.ofBits .f32 0x45000000#32 = ((2048 : ℝ) : EReal) := by
    simp [Ideal.ofBits, Ideal.ieee]
    rw [← EReal.coe_mul]
    norm_num
  unfold Ideal.div
  rw [h, if_neg (by norm_num), ← EReal.coe_inv, inv2048, one_div]

/-- Scaling by it goes into a sum, whatever the summands. -/
theorem sum_mul_inv {ι : Type} [DecidableEq ι] (s : Finset ι) (f : ι → EReal) :
    (∑ i ∈ s, f i) * (inv2048 : EReal) = ∑ i ∈ s, f i * (inv2048 : EReal) := by
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by unfold inv2048; exact_mod_cast (by norm_num : (0:ℝ) ≤ 1 / 2048)) (EReal.coe_ne_top _) _ _

/-! ## The problem's two results -/

variable (X : (⟨3, ![1, 2048, 4096]⟩ : Shape).Idx → EReal) (W : (⟨2, ![1024, 4096]⟩ : Shape).Idx → EReal)
  (B : (⟨1, ![1024]⟩ : Shape).Idx → EReal) (C : (⟨3, ![1, 1024, 64]⟩ : Shape).Idx → EReal)

/-- Entry `v` of group `g` among the 1024. -/
abbrev entry (g : Fin 2) (v : Fin 512) : Fin 1024 := ⟨512 * g.val + v.val, by omega⟩

/-- Position `n`'s logits of group `g`. -/
def logits (n : Fin 2048) (g : Fin 2) : Fin 512 → EReal := fun v =>
  (∑ k : Fin 4096, X (ix3 0 n k) * W (ix2 (entry g v) k)) + B (ix1 (entry g v))

/-- The entry it chooses. -/
def code (n : Fin 2048) (g : Fin 2) : Fin 512 := firstMax (logits X W B n g)

/-- The quantized vectors: per group the chosen entry's row of the codebook. -/
def quantized : (⟨3, ![1, 2048, 128]⟩ : Shape).Idx → EReal := fun j =>
  C (ix3 0 (entry ⟨(j 2).val / 64, by have : (j 2).val < 128 := (j 2).isLt; omega⟩
    (code X W B (j 1) ⟨(j 2).val / 64, by have : (j 2).val < 128 := (j 2).isLt; omega⟩)) ⟨(j 2).val % 64, by omega⟩)

/-- The mean over the positions of the groups' softmaxes. -/
def meanSoft : (⟨2, ![2, 512]⟩ : Shape).Idx → EReal := fun j =>
  (∑ n : Fin 2048, soft (logits X W B n (j 0)) (j 1)) * (inv2048 : EReal)

end Cert.Proof.Value

end
-- ==== Proof.KernelBlock.lean ====
/-
  The TensorCore block's values over the extended reals: of a block of 256 positions the row numbers chosen and the
  block's share of the mean of the softmaxes, in the terms of Spec.
-/
module

public import proofs.«01_k».proof.Proof.TcBody
public import proofs.«01_k».proof.Proof.Spec

@[expose] public section

noncomputable section

namespace Cert.Proof.Value

open Cert.KernelIdeal Cert.KernelIdeal.Gen Cert.Proof.Run
open Idealize.ShloMosaic

set_option maxRecDepth 16384

variable (x : S256x4096.Idx → EReal) (w : S1024x4096.Idx → EReal) (b : S1x1024.Idx → EReal)

/-- Row `r`'s logits of group `g`, in the block. -/
def brow (g : Fin 2) (r : Fin 256) : Fin 512 → EReal := fun v =>
  (∑ k : Fin 4096, x (ix2 r k) * w (ix2 (entry g v) k)) + b (ix2 0 (entry g v))

theorem pay4_apply (r : Fin 256) (v : Fin 1024) :
    k0_pay4 (F := Ideal) x w b (ix2 r v) = (∑ k : Fin 4096, x (ix2 r k) * w (ix2 v k)) + b (ix2 0 v) := by
  pointwise [k0_pay4]

theorem pay5_apply (r : Fin 256) (v : Fin 512) : k0_pay5 (F := Ideal) x w b (ix2 r v) = brow x w b 0 r v := by
  pointwise [k0_pay5]
  rw [pay4_apply, show (⟨v.val, by omega⟩ : Fin 1024) = entry 0 v from Fin.ext (by simp)]
  rfl

theorem pay9_apply (r : Fin 256) (v : Fin 512) : k0_pay9 (F := Ideal) x w b (ix2 r v) = brow x w b 1 r v := by
  pointwise [k0_pay9]
  rw [pay4_apply, show (⟨512 + v.val, by omega⟩ : Fin 1024) = entry 1 v from Fin.ext (by simp)]
  rfl

theorem pay6_apply (r : Fin 256) (u : Fin 1) : k0_pay6 (F := Ideal) x w b (ix2 r u) = top (brow x w b 0 r) := by
  pointwise [k0_pay6]
  simp only [pay5_apply, negInf]
  rfl

theorem pay10_apply (r : Fin 256) (u : Fin 1) : k0_pay10 (F := Ideal) x w b (ix2 r u) = top (brow x w b 1 r) := by
  pointwise [k0_pay10]
  simp only [pay9_apply, negInf]
  rfl

theorem pay7_apply (v : Fin 512) : k0_pay7 (F := Ideal) x w b (ix1 v) = (∑ r : Fin 256, soft (brow x w b 0 r) v) * (inv2048 : EReal) := by
  pointwise [k0_pay7]
  simp only [pay5_apply, pay6_apply]
  rw [inv2048_bits]
  rfl

theorem pay11_apply (v : Fin 512) : k0_pay11 (F := Ideal) x w b (ix1 v) = ∑ r : Fin 256, soft (brow x w b 1 r) v := by
  pointwise [k0_pay11]
  simp only [pay9_apply, pay10_apply]
  rfl

theorem pay8_apply (r : Fin 256) (u : Fin 1) : k0_pay8 (F := Ideal) x w b (ix2 r u) = BitVec.ofNat 32 (firstMax (brow x w b 0 r)).val := by
  pointwise [k0_pay8]
  simp only [pay5_apply, pay6_apply]
  rw [least_lane]
  exact BitVec.add_zero _

/-- The row numbers: in the table of both groups' rows, one below the other. -/
theorem idxOf_apply (r : Fin 256) (g : Fin 2) :
    idxOf (F := Ideal) x w b (ix2 r g) = BitVec.ofNat 32 (entry g (firstMax (brow x w b g r))).val := by
  unfold idxOf
  pointwise [k0_pay1]
  simp only [pay9_apply, pay10_apply, pay8_apply]
  fin_vals g with hg
  · rw [show g = 0 from Fin.ext hg]
    simp
  · rw [show g = 1 from Fin.ext hg, least_lane]
    simp [IntOp.addi]
    rw [Nat.add_comm, BitVec.ofNat_add]

/-- The block's share of the mean. -/
theorem incOf_apply (u : Fin 1) (g : Fin 2) (v : Fin 512) :
    incOf (F := Ideal) x w b (ix2 u (entry g v)) = (∑ r : Fin 256, soft (brow x w b g r) v) * (inv2048 : EReal) := by
  unfold incOf
  pointwise [k0_pay2]
  fin_vals g with hg
  · obtain rfl : g = 0 := Fin.ext hg
    have h : (entry 0 v).val < 512 := by simp [entry]
    rw [dif_pos h, ← pay7_apply]
    congr 2
    exact Fin.ext (by simp [entry])
  · obtain rfl : g = 1 := Fin.ext hg
    have h : ¬ (entry 1 v).val < 512 := by simp [entry]
    rw [dif_neg h, inv2048_bits, ← pay11_apply]
    congr 3
    exact Fin.ext (by simp [entry])

theorem addOf_apply (A : S1x1024.Idx → EReal) (u : Fin 1) (v : Fin 1024) :
    addOf (F := Ideal) x w b A (ix2 u v) = A (ix2 u v) + incOf (F := Ideal) x w b (ix2 u v) := by
  unfold addOf incOf
  pointwise [k0_pay3]

end Cert.Proof.Value

end
-- ==== Proof.KernelArrays.lean ====
/-
  What the arrays of the kernel's program hold over the extended reals, in the terms of Spec: what the host prepares,
  the row numbers and the mean the TensorCore call leaves, the rows the SparseCore call adds, and the two results.
-/
module

public import proofs.«01_k».proof.Proof.HostOps
public import proofs.«01_k».proof.Proof.KernelBlock

@[expose] public section

noncomputable section

namespace Cert.Proof.Value

open Cert.KernelIdeal Cert.KernelIdeal.Gen Cert.Proof.Run
open Idealize.ShloMosaic

set_option maxRecDepth 16384

variable (m : (ℓ : Loc nD τ sig) → Buf (Elt Ideal) ℓ) (d : Dev nD)

/-- The arguments' contents. -/
abbrev argX : S1x2048x4096.Idx → EReal := m (d, Proc.devRef .tc main_arg0)
abbrev argW : S1024x4096.Idx → EReal := m (d, Proc.devRef .tc main_arg1)
abbrev argB : S1024.Idx → EReal := m (d, Proc.devRef .tc main_arg2)
abbrev argC : S1x1024x64.Idx → EReal := m (d, Proc.devRef .tc main_arg3)

theorem V1_v0 (n : Fin 2048) (k : Fin 4096) : (V1 m d (Proc.devRef .tc main_v0) : S2048x4096.Idx → EReal) (ix2 n k) = argX m d (ix3 0 n k) := by
  have h : (V1 m d (Proc.devRef .tc main_v0) : S2048x4096.Idx → EReal) = shapeCast S2048x4096 (argX m d) shapeCasts_S1x2048x4096_S2048x4096 := by
    unfold V1
    after_results
    rfl
  rw [h]
  pointwise

theorem V1_v7 (u : Fin 1) (v : Fin 1024) : (V1 m d (Proc.devRef .tc main_v7) : S1x1024.Idx → EReal) (ix2 u v) = argB m d (ix1 v) := by
  have h : (V1 m d (Proc.devRef .tc main_v7) : S1x1024.Idx → EReal) = shapeCast S1x1024 (argB m d) shapeCasts_S1024_S1x1024 := by
    unfold V1
    after_results
    rfl
  rw [h]
  pointwise

/-- The table as the host builds it: each group's rows, padded to the left or to the right, one below the other. -/
def tableOf (C : S1x1024x64.Idx → EReal) : S1024x128.Idx → EReal :=
  concatenate S1024x128 0
    [⟨S512x128, pad S512x128 ![0, 0] ![0, 64] ![0, 0] (extractStridedSlice S512x64 ![0, 0] (shapeCast S1024x64 C shapeCasts_S1x1024x64_S1024x64) slices_S1024x64_S512x64_0_0)
      (sitofp (F := Ideal) .f32 (constantI S_ 32 0#32)) pads_S512x64_S512x128_000_0640 h_S_⟩,
     ⟨S512x128, pad S512x128 ![0, 64] ![0, 0] ![0, 0] (extractStridedSlice S512x64 ![512, 0] (shapeCast S1024x64 C shapeCasts_S1x1024x64_S1024x64) slices_S1024x64_S512x64_512_0)
      (sitofp (F := Ideal) .f32 (constantI S_ 32 0#32)) pads_S512x64_S512x128_000_6400 h_S_⟩]
    concatenates_S512x128_S512x128_S1024x128_d0

theorem tableOf_apply (C : S1x1024x64.Idx → EReal) (v : Fin 1024) (e : Fin 128) :
    tableOf C (ix2 v e) = if v.val / 512 = e.val / 64 then C (ix3 0 v ⟨e.val % 64, by omega⟩) else 0 := by
  pointwise [tableOf]
  have hz : (FloatOps.sitofp (F := Ideal) FTy.f32 0#32 : EReal) = 0 := by
    show (((0#32 : BitVec 32).toInt : ℝ) : EReal) = 0
    simp
  rw [hz]
  have hv := v.isLt
  have he := e.isLt
  by_cases h1 : v.val < 512
  · rw [dif_pos h1]
    by_cases h2 : e.val < 64
    · rw [dif_pos ⟨h1, h2⟩, if_pos (by omega)]
      congr 2
      exact Fin.ext (by show e.val = e.val % 64; omega)
    · rw [dif_neg (fun h => h2 h.2), if_neg (by omega)]
  · rw [dif_neg h1]
    by_cases h2 : e.val < 64
    · rw [dif_neg (by omega), if_neg (by omega)]
    · rw [dif_pos (by omega)]
      refine Eq.trans ?_ (if_pos (by omega)).symm
      congr 2
      · exact Fin.ext (by show 512 + (v.val - 512) = v.val; omega)
      · exact Fin.ext (by show e.val - 64 = e.val % 64; omega)

theorem V1_v6 : (V1 m d (Proc.devRef .tc main_v6) : S1024x128.Idx → EReal) = tableOf (argC m d) := by
  unfold V1
  after_results
  rfl

/-! ## The row numbers -/

/-- Row `r` of block `t`, among the positions. -/
def pos (t : ℕ) (r : Fin 256) : Fin 2048 := ⟨(256 * t + r.val) % 2048, Nat.mod_lt _ (by decide)⟩

theorem xBlk_apply (t : ℕ) (ht : t < 8) (r : Fin 256) (k : Fin 4096) :
    xBlk (F := Ideal) (V1 m) d t ht (ix2 r k) = argX m d (ix3 0 (pos t r) k) := by
  rw [← V1_v0]
  refine congrArg (V1 m d (Proc.devRef .tc main_v0) : S2048x4096.Idx → EReal) (funext fun a => ?_)
  fin_cases a
  · exact Fin.ext (by have := r.isLt; show 256 * t + r.val = (256 * t + r.val) % 2048; omega)
  · rfl

theorem bAll_apply (u : Fin 1) (v : Fin 1024) : bAll (F := Ideal) (V1 m) d (ix2 u v) = argB m d (ix1 v) := V1_v7 m d u v

theorem wAll_eq : wAll (F := Ideal) (V1 m) d = argW m d := V1_of_ne m d main_arg1 (by decide)

theorem brow_block (t : ℕ) (ht : t < 8) (g : Fin 2) (r : Fin 256) :
    brow (xBlk (F := Ideal) (V1 m) d t ht) (wAll (F := Ideal) (V1 m) d) (bAll (F := Ideal) (V1 m) d) g r
      = logits (argX m d) (argW m d) (argB m d) (pos t r) g := by
  funext v
  unfold brow logits
  exact congrArg₂ (· + ·) (Finset.sum_congr rfl fun k _ => congrArg₂ (· * ·) (xBlk_apply m d t ht r k) (congrFun (wAll_eq m d) _)) (bAll_apply m d 0 _)

theorem idxAll_apply (n : Fin 2048) (g : Fin 2) :
    idxAll (V1 m) d (ix2 n g) = BitVec.ofNat 32 (entry g (code (argX m d) (argW m d) (argB m d) n g)).val := by
  have hn := n.isLt
  have e : idxAll (V1 m) d (ix2 n g) = idxOf (F := Ideal) (xBlk (V1 m) d (n.val / 256) (by omega)) (wAll (V1 m) d) (bAll (V1 m) d) (ix2 ⟨n.val % 256, by omega⟩ g) := by
    unfold idxAll idxBlk
    exact congrArg _ (funext fun a => by fin_cases a <;> rfl)
  rw [e, idxOf_apply, brow_block, show pos (n.val / 256) ⟨n.val % 256, by omega⟩ = n from
    Fin.ext (by show (256 * (n.val / 256) + n.val % 256) % 2048 = n.val; omega)]
  rfl

theorem V3_v9 (j : Fin 4096) : (V3 m d (Proc.devRef .tc main_v9) : S4096.Idx → BitVec 32) (ix1 j)
    = BitVec.ofNat 32 (entry ⟨j.val % 2, by omega⟩ (code (argX m d) (argW m d) (argB m d) ⟨j.val / 2, by omega⟩ ⟨j.val % 2, by omega⟩)).val := by
  have h : (V3 m d (Proc.devRef .tc main_v9) : S4096.Idx → BitVec 32) = shapeCast S4096 (idxAll (V1 m) d) shapeCasts_S2048x2_S4096 := by
    unfold V3
    after_results
    rw [show V2 m d (Proc.devRef .tc main_v8_0) = idxAll (V1 m) d from Vout_v8_0 (V1 m) d]
    rfl
  rw [h]
  pointwise
  rw [idxAll_apply]

/-- Every row number names a row of the table. -/
theorem inRows : InRows fun d => (V3 m d (Proc.devRef .tc main_v9) : S4096.Idx → BitVec 32) := by
  intro d j
  have h := V3_v9 m d (j 0)
  rw [show (ix1 (j 0) : S4096.Idx) = j from (eq_ix1 j).symm] at h
  show BitVec.toNat (V3 m d (Proc.devRef .tc main_v9) j) < 1024
  rw [h, BitVec.toNat_ofNat]
  exact lt_of_le_of_lt (Nat.mod_le _ _) (Fin.isLt _)

/-! ## The two results -/

theorem V3_v6 : (V3 m d (Proc.devRef .tc main_v6) : S1024x128.Idx → EReal) = tableOf (argC m d) :=
  ((V3_of_ne m d main_v6 (by decide)).trans (Vout_of_ne (V1 m) d main_v6 (by decide) (by decide))).trans (V1_v6 m d)

theorem rowAt_ofNat (v : Fin 1024) : rowAt (BitVec.ofNat 32 v.val) = v := by
  have := v.isLt
  refine Fin.ext ?_
  show (BitVec.ofNat 32 v.val).toNat % 1024 = v.val
  rw [BitVec.toNat_ofNat]
  omega

theorem rows_added (n : Fin 2048) (e : Fin 128) :
    gOut (F := Ideal) (V3 m d (Proc.devRef .tc main_v6)) (V3 m d (Proc.devRef .tc main_v9)) (ix2 n e)
      = quantized (argX m d) (argW m d) (argB m d) (argC m d) (ix3 0 n e) := by
  have he := e.isLt
  have h0 : (V3 m d (Proc.devRef .tc main_v9) : S4096.Idx → BitVec 32) (ix1 ⟨2 * n.val, by omega⟩)
      = BitVec.ofNat 32 (entry 0 (code (argX m d) (argW m d) (argB m d) n 0)).val := by
    rw [V3_v9]
    simp
  have h1 : (V3 m d (Proc.devRef .tc main_v9) : S4096.Idx → BitVec 32) (ix1 ⟨2 * n.val + 1, by omega⟩)
      = BitVec.ofNat 32 (entry 1 (code (argX m d) (argW m d) (argB m d) n 1)).val := by
    have e1 : (⟨(2 * n.val + 1) % 2, by omega⟩ : Fin 2) = 1 := Fin.ext (by show (2 * n.val + 1) % 2 = 1; omega)
    have e2 : (⟨(2 * n.val + 1) / 2, by omega⟩ : Fin 2048) = n := Fin.ext (by show (2 * n.val + 1) / 2 = n.val; omega)
    refine (V3_v9 m d ⟨2 * n.val + 1, by omega⟩).trans ?_
    show BitVec.ofNat 32 (entry ⟨(2 * n.val + 1) % 2, by omega⟩ (code (argX m d) (argW m d) (argB m d) ⟨(2 * n.val + 1) / 2, by omega⟩ ⟨(2 * n.val + 1) % 2, by omega⟩)).val = _
    rw [e1, e2]
  have key : gOut (F := Ideal) (V3 m d (Proc.devRef .tc main_v6)) (V3 m d (Proc.devRef .tc main_v9)) (ix2 n e)
      = tableOf (argC m d) (ix2 (entry 0 (code (argX m d) (argW m d) (argB m d) n 0)) e)
        + tableOf (argC m d) (ix2 (entry 1 (code (argX m d) (argW m d) (argB m d) n 1)) e) := by
    rw [← V3_v6]
    refine congrArg₂ (· + ·) (congrArg _ (funext fun a => ?_)) (congrArg _ (funext fun a => ?_))
    · fin_cases a
      · exact (congrArg rowAt ((congrArg _ (funext fun a => by fin_cases a; rfl)).trans h0)).trans (rowAt_ofNat _)
      · rfl
    · fin_cases a
      · exact (congrArg rowAt ((congrArg _ (funext fun a => by fin_cases a; rfl)).trans h1)).trans (rowAt_ofNat _)
      · rfl
  rw [key, tableOf_apply, tableOf_apply]
  have q : quantized (argX m d) (argW m d) (argB m d) (argC m d) (ix3 0 n e)
      = argC m d (ix3 0 (entry ⟨e.val / 64, by omega⟩ (code (argX m d) (argW m d) (argB m d) n ⟨e.val / 64, by omega⟩)) ⟨e.val % 64, by omega⟩) := rfl
  have c0 := (code (argX m d) (argW m d) (argB m d) n 0).isLt
  have c1 := (code (argX m d) (argW m d) (argB m d) n 1).isLt
  have d0 : (entry 0 (code (argX m d) (argW m d) (argB m d) n 0)).val / 512 = 0 := by simp only [entry]; omega
  have d1 : (entry 1 (code (argX m d) (argW m d) (argB m d) n 1)).val / 512 = 1 := by simp only [entry]; omega
  rw [d0, d1]
  by_cases h : e.val < 64
  · rw [if_pos (by omega), if_neg (by omega), add_zero]
    have eg : (⟨e.val / 64, by omega⟩ : Fin 2) = 0 := Fin.ext (by show e.val / 64 = 0; omega)
    rw [q, eg]
  · rw [if_neg (by omega), if_pos (by omega), zero_add]
    have eg : (⟨e.val / 64, by omega⟩ : Fin 2) = 1 := Fin.ext (by show e.val / 64 = 1; omega)
    rw [q, eg]

theorem V5_v12 : (V5 m d (Proc.devRef .tc main_v12) : S1x2048x128.Idx → EReal) = quantized (argX m d) (argW m d) (argB m d) (argC m d) := by
  have h : (V5 m d (Proc.devRef .tc main_v12) : S1x2048x128.Idx → EReal)
      = shapeCast S1x2048x128 (gOut (F := Ideal) (V3 m d (Proc.devRef .tc main_v6)) (V3 m d (Proc.devRef .tc main_v9))) shapeCasts_S2048x128_S1x2048x128 := by
    unfold V5
    after_results
    rw [show V4 m d (Proc.devRef .tc main_v10) = gOut (F := Ideal) (V3 m d (Proc.devRef .tc main_v6)) (V3 m d (Proc.devRef .tc main_v9)) from by unfold V4; exact Function.update_self ..]
    rfl
  rw [h]
  funext j
  idx_vars j
  pointwise
  rw [rows_added, Subsingleton.elim j0 0]

/-- A sum over the positions, block by block. -/
theorem sum_blocks (f : Fin 2048 → EReal) :
    ∑ n, f n = ∑ t ∈ Finset.range 8, ∑ r : Fin 256, f (pos t r) := by
  rw [Finset.sum_range, ← Fintype.sum_prod_type']
  refine (Fintype.sum_equiv (finProdFinEquiv (m := 8) (n := 256)) _ _ fun p => ?_).symm
  congr 1
  refine Fin.ext ?_
  have h1 := p.1.isLt
  have h2 := p.2.isLt
  show (256 * p.1.val + p.2.val) % 2048 = p.2.val + 256 * p.1.val
  omega

/-- Block `t`'s share of the softmaxes' sum. -/
def share (g : Fin 2) (v : Fin 512) (t : ℕ) : EReal :=
  ∑ r : Fin 256, soft (logits (argX m d) (argW m d) (argB m d) (pos t r) g) v

theorem inc_block (g : Fin 2) (v : Fin 512) (t : ℕ) (ht : t < 8) (u : Fin 1) :
    incOf (F := Ideal) (xBlk (V1 m) d t ht) (wAll (V1 m) d) (bAll (V1 m) d) (ix2 u (entry g v)) = share m d g v t * (inv2048 : EReal) := by
  rw [incOf_apply]
  exact congrArg (· * (inv2048 : EReal)) (Finset.sum_congr rfl fun r _ => congrFun (congrArg soft (brow_block m d t ht g r)) v)

theorem accTo_apply (g : Fin 2) (v : Fin 512) (u : Fin 1) : ∀ (t : ℕ) (ht : t < 8),
    accTo (F := Ideal) (V1 m) d t ht (ix2 u (entry g v)) = (∑ s ∈ Finset.range (t + 1), share m d g v s) * (inv2048 : EReal)
  | 0, ht => by
    rw [Finset.sum_range_one]
    exact inc_block m d g v 0 ht u
  | t + 1, ht => by
    rw [accTo, addOf_apply, accTo_apply g v u t, inc_block, sum_mul_inv (Finset.range (t + 1 + 1)), Finset.sum_range_succ _ (t + 1), ← sum_mul_inv]

theorem V5_v11 : (V5 m d (Proc.devRef .tc main_v11) : S2x512.Idx → EReal) = meanSoft (argX m d) (argW m d) (argB m d) := by
  have h : (V5 m d (Proc.devRef .tc main_v11) : S2x512.Idx → EReal) = shapeCast S2x512 (meanAll (V1 m) d) shapeCasts_S1x1024_S2x512 := by
    unfold V5
    after_results
    rw [show V4 m d (Proc.devRef .tc main_v8_1) = meanAll (V1 m) d from
      ((V4_of_ne m d main_v8_1 (by decide)).trans (V3_of_ne m d main_v8_1 (by decide))).trans (Vout_v8_1 (V1 m) d)]
    rfl
  rw [h]
  funext j
  idx_vars j
  pointwise
  rw [show (⟨j0.val * 512 + j1.val, by omega⟩ : Fin 1024) = entry j0 j1 from Fin.ext (by show j0.val * 512 + j1.val = 512 * j0.val + j1.val; omega)]
  refine (accTo_apply m d j0 j1 0 7 (by decide)).trans ?_
  exact congrArg (· * (inv2048 : EReal)) (sum_blocks fun n => soft (logits (argX m d) (argW m d) (argB m d) n j0) j1).symm

end Cert.Proof.Value

end
-- ==== Proof.KernelRun.lean ====
/-
  The kernel's program over the extended reals, run whole: the two results as functions of the arguments, the
  arguments unchanged, every semaphore at zero.
-/
module

public import proofs.«01_k».proof.Proof.Main
public import proofs.«01_k».proof.Proof.KernelArrays
public import Idealize.ShloMosaic.Lib.Pipeline.FrameTail

@[expose] public section

noncomputable section

namespace Cert.Proof.Value

open Cert.KernelIdeal Cert.KernelIdeal.Gen Cert.Proof.Run
open Idealize.ShloMosaic Idealize.SL.Sem

variable (m : (ℓ : Loc nD τ sig) → Buf (Elt Ideal) ℓ) (g : Dev nD → PrngReg)

/-- The kernel's run. -/
theorem kernel_run : θ_run (Cert.KernelIdeal.defs (F := Ideal)) (Cert.KernelIdeal.threads (F := Ideal)) ⟨m, fun _ => 0, g⟩ (fun r =>
    (∀ c : Dev nD,
      r.2.mem ((c.tc : Thread nD τ).loc main_v12) = quantized (argX m c) (argW m c) (argB m c) (argC m c)
      ∧ r.2.mem ((c.tc : Thread nD τ).loc main_v11) = meanSoft (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) := by
  refine (θ_run Cert.KernelIdeal.defs _ _).mono (fun r h => ⟨fun c => ?_, h.2⟩) (run_main (F := Ideal) m g (inRows m))
  have hb : ∀ b : Ref sig .tc, b.isScoped = false → r.2.mem ((c.tc : Thread nD τ).loc b) = V5 m c (Proc.devRef .tc b) :=
    fun b hu => h.1 c _ (Pipeline.devRef_mem_ucRefs hu)
  have ha : ∀ b : Ref sig .tc, b.isScoped = false → b ∉ ([main_v0, main_v1, main_v2, main_c, main_call0_v0, main_v3, main_v4, main_c_0, main_call1_v0, main_v5, main_v6, main_v7] : List (Ref sig .tc)) →
      b ≠ main_v8_0 → b ≠ main_v8_1 → b ≠ main_v9 → b ≠ main_v10 → b ≠ main_v11 → b ≠ main_v12 →
      r.2.mem ((c.tc : Thread nD τ).loc b) = m ((c.tc : Thread nD τ).loc b) :=
    fun b hu h1 h2 h3 h4 h5 h6 h7 => (hb b hu).trans (V5_arg m c b h1 h2 h3 h4 h5 h6 h7)
  exact ⟨(hb main_v12 (by decide)).trans (V5_v12 m c), (hb main_v11 (by decide)).trans (V5_v11 m c),
    ha main_arg0 (by decide) (by decide) (by decide) (by decide) (by decide) (by decide) (by decide) (by decide),
    ha main_arg1 (by decide) (by decide) (by decide) (by decide) (by decide) (by decide) (by decide) (by decide),
    ha main_arg2 (by decide) (by decide) (by decide) (by decide) (by decide) (by decide) (by decide) (by decide),
    ha main_arg3 (by decide) (by decide) (by decide) (by decide) (by decide) (by decide) (by decide) (by decide)⟩

end Cert.Proof.Value

end
-- ==== Proof.RefRun.lean ====
/-
  The reference's run over the extended reals: its operations, in stages.
-/
module

public import proofs.«01_k».proof.ReferenceIdeal
public import proofs.«01_k».proof.Proof.Gen.ReferenceIdeal
public import proofs.«01_k».proof.Proof.Spec
public import Idealize.ShloMosaic.Lib.Claim

@[expose] public section

noncomputable section

namespace Cert.Proof.Ref

open Cert.ReferenceIdeal Cert.ReferenceIdeal.Gen
open Idealize.ShloMosaic Idealize.SL.Sem

set_option maxRecDepth 16384

/-- The logits, a row per position and group. -/
def lg (X : S1x2048x4096.Idx → EReal) (W : S1024x4096.Idx → EReal) (B : S1024.Idx → EReal) : S4096x512.Idx → EReal :=
  shapeCast S4096x512 (addf (F := Ideal) (φ := .f32)
    (Host.dotGeneral (F := Ideal) (φ₁ := .f32) (φ₂ := .f32) dot_S2048x4096_S4096x1024_S2048x1024_1_0_0_1_n_n none
      (shapeCast S2048x4096 X shapeCasts_S1x2048x4096_S2048x4096) (transpose S4096x1024 [1, 0] W transposes_S1024x4096_S4096x1024_1_0))
    (broadcastInDim S2048x1024 ![0, 1] bcast_S1x1024_S2048x1024_0_1 (broadcastInDim S1x1024 ![1] bcast_S1024_S1x1024_1 B))) shapeCasts_S2048x1024_S4096x512

/-- Each row's place of the maximum. -/
def place (L : S4096x512.Idx → EReal) : S4096.Idx → BitVec 32 := fun j =>
  (Host.argReduce (reducer_argmax_f32_i32 (F := Ideal)) L (iotaInDim S4096x512 32 1) (constant (F := Ideal) S_ .f32 0xFF800000#32) (constantI S_ 32 0#32)
    reducesTo_S4096x512_S4096_d1 h_S_ j).2

/-- One-hot words of the places, as floats. -/
def hot (I : S4096.Idx → BitVec 32) : S4096x512.Idx → EReal :=
  uitofp (F := Ideal) .f32 (cmpi .eq (broadcastInDim S4096x512 ![0, 1] bcast_S4096x1_S4096x512_0_1 (broadcastInDim S4096x1 ![0] bcast_S4096_S4096x1_0 I))
    (broadcastInDim S4096x512 ![0, 1] bcast_S1x512_S4096x512_0_1 (iotaInDim S1x512 32 1)))

/-- The first result: each one-hot word times the codebook, summed over a group's entries. -/
def quant (H : S4096x512.Idx → EReal) (C : S1x1024x64.Idx → EReal) : S1x2048x128.Idx → EReal :=
  shapeCast S1x2048x128 (Host.reduceAdd (F := Ideal) (φ := .f32)
    (shapeCast S2048x2x512x64 (mulf (F := Ideal) (φ := .f32)
      (broadcastInDim S2048x1024x64 ![0, 1, 2] bcast_S2048x1024x1_S2048x1024x64_0_1_2
        (broadcastInDim S2048x1024x1 ![0, 1] bcast_S2048x1024_S2048x1024x1_0_1
          (shapeCast S2048x1024 (shapeCast S2048x2x512 H shapeCasts_S4096x512_S2048x2x512) shapeCasts_S2048x2x512_S2048x1024)))
      (broadcastInDim S2048x1024x64 ![0, 1, 2] bcast_S1x1024x64_S2048x1024x64_0_1_2 C)) shapeCasts_S2048x1024x64_S2048x2x512x64)
    (constant S_ .f32 0x00000000#32) reducesTo_S2048x2x512x64_S2048x2x64_d2 h_S_) shapeCasts_S2048x2x64_S1x2048x128

/-- The exponentials, shifted by the row's maximum. -/
def expo (L : S2048x2x512.Idx → EReal) : S2048x2x512.Idx → EReal :=
  Host.exp (F := Ideal) (φ := .f32) (subf (F := Ideal) (φ := .f32) L (broadcastInDim S2048x2x512 ![0, 1, 2] bcast_S2048x2x1_S2048x2x512_0_1_2
    (broadcastInDim S2048x2x1 ![0, 1] bcast_S2048x2_S2048x2x1_0_1
      (maximumf (F := Ideal) (φ := .f32) (broadcastInDim S2048x2 ![] bcast_S_S2048x2 (constant S_ .f32 0xFF800000#32))
        (Host.reduce FloatOps.maximumf L (constant (F := Ideal) S_ .f32 0xFF800000#32) reducesTo_S2048x2x512_S2048x2_d2 h_S_)))))

/-- The softmaxes. -/
def softs (L : S2048x2x512.Idx → EReal) : S2048x2x512.Idx → EReal :=
  Host.divf (F := Ideal) (φ := .f32) (expo L)
    (broadcastInDim S2048x2x512 ![0, 1, 2] bcast_S2048x2x1_S2048x2x512_0_1_2 (broadcastInDim S2048x2x1 ![0, 1] bcast_S2048x2_S2048x2x1_0_1
      (Host.reduceAdd (F := Ideal) (φ := .f32) (expo L) (constant S_ .f32 0x00000000#32) reducesTo_S2048x2x512_S2048x2_d2 h_S_)))

/-- The second result: the softmaxes' mean over the positions. -/
def mean (L : S4096x512.Idx → EReal) : S2x512.Idx → EReal :=
  Host.divf (F := Ideal) (φ := .f32) (Host.reduceAdd (F := Ideal) (φ := .f32) (softs (shapeCast S2048x2x512 L shapeCasts_S4096x512_S2048x2x512))
    (constant S_ .f32 0x00000000#32) reducesTo_S2048x2x512_S2x512_d0 h_S_) (broadcastInDim S2x512 ![] bcast_S_S2x512 (constant S_ .f32 0x45000000#32))

/-- The run: the two results, and the arguments unchanged. -/
theorem run (m : (ℓ : Loc nD τ sig) → Buf (Elt Ideal) ℓ) (g : Dev nD → PrngReg)  :
    θ_run (defs (F := Ideal)) (onTc (τ := τ) (main (F := Ideal))) ⟨m, fun _ => 0, g⟩ (fun r => ∀ c : Dev nD,
      r.2.mem ((c.tc : Thread nD τ).loc main_v32) = quant (hot (place (lg (m ((c.tc : Thread nD τ).loc main_arg0)) (m ((c.tc : Thread nD τ).loc main_arg1)) (m ((c.tc : Thread nD τ).loc main_arg2)))))
          (m ((c.tc : Thread nD τ).loc main_arg3))
      ∧ r.2.mem ((c.tc : Thread nD τ).loc main_v24) = mean (lg (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · simp only [StableHlo.TRef.ofBuf_toBuf]
    simp only [StableHlo.TRef.ofBuf, StableHlo.TRef.toBuf, cast_eq]
    unfold quant hot place lg
    rfl
  · unfold mean softs expo lg
    rfl

end Cert.Proof.Ref

end
-- ==== Proof.RefPlace.lean ====
/-
  The reference's arg-max over the extended reals: each row's first place of its maximum.
-/
module

public import proofs.«01_k».proof.Proof.RefRun

@[expose] public section

noncomputable section

namespace Cert.Proof.Ref

open Cert.ReferenceIdeal Cert.ReferenceIdeal.Gen Cert.Proof.Value
open Idealize.ShloMosaic

/-- The printed comparison of two pairs is `better`. -/
theorem reducer_eq : reducer_argmax_f32_i32 (F := Ideal) = better := by
  funext a b
  obtain ⟨x, p⟩ := a
  obtain ⟨y, q⟩ := b
  have hx : Ideal.cmp .une x x = 0#1 := by simp [Ideal.cmp]
  simp only [reducer_argmax_f32_i32, better, Ideal.cmpf_def, hx]
  rcases lt_trichotomy x y with h | h | h
  · simp [Ideal.cmp, IntOp.ori, IntOp.andi, Scalar.select, not_lt.2 h.le, h.ne]
  · subst h
    by_cases hs : p.toInt < q.toInt
    · have : IntOp.cmpi .slt p q = 1#1 := by simp [IntOp.cmpi, BitVec.slt, hs]
      simp [Ideal.cmp, IntOp.ori, IntOp.andi, Scalar.select, this, hs]
    · have : IntOp.cmpi .slt p q = 0#1 := by simp [IntOp.cmpi, BitVec.slt, hs]
      simp [Ideal.cmp, IntOp.ori, IntOp.andi, Scalar.select, this, hs]
  · simp [Ideal.cmp, IntOp.ori, IntOp.andi, Scalar.select, h, h.ne']

theorem drop_eq (i : Fin 4096) (j : S4096x512.Idx) : reducesTo_S4096x512_S4096_d1.drop j = ix1 i ↔ j 0 = i := by
  constructor
  · intro h
    exact congrFun h 0
  · intro h
    funext a
    fin_cases a
    exact h

/-- The pairs a row's fold meets: each lane's value with its number. -/
theorem mem_fiber (L : S4096x512.Idx → EReal) (i : Fin 4096) (p : EReal × BitVec 32) :
    p ∈ Host.argReduceFiber L (iotaInDim S4096x512 32 1) reducesTo_S4096x512_S4096_d1 (ix1 i) ↔ ∃ v : Fin 512, p = (L (ix2 i v), BitVec.ofNat 32 v.val) := by
  unfold Host.argReduceFiber
  simp only [List.mem_map, List.mem_filter, List.mem_finRange, true_and, decide_eq_true_eq]
  constructor
  · rintro ⟨n, hn, rfl⟩
    generalize S4096x512.rowMajor.symm n = j at hn
    obtain rfl := (drop_eq i j).1 hn
    exact ⟨j 1, Prod.ext (congrArg L (eq_ix2 j)) rfl⟩
  · rintro ⟨v, rfl⟩
    refine ⟨S4096x512.rowMajor (ix2 i v), ?_, ?_⟩
    · rw [Equiv.symm_apply_apply]
      exact (drop_eq i _).2 rfl
    · rw [Equiv.symm_apply_apply]
      rfl

theorem fold_apply (L : S4096x512.Idx → EReal) (i : Fin 4096) (f : EReal × BitVec 32 → EReal × BitVec 32 → EReal × BitVec 32) (hf : f = better)
    (x : S_.Idx → EReal) (y : S_.Idx → BitVec 32) (hx : ∀ k, x k = ⊥) (hy : ∀ k, y k = 0#32) :
    (Host.argReduce (F := Ideal) (φ := .f32) f L (iotaInDim S4096x512 32 1) x y reducesTo_S4096x512_S4096_d1 h_S_ (ix1 i)).2
      = BitVec.ofNat 32 (firstMax fun v => L (ix2 i v)).val := by
  rw [← foldl_firstMax _ _ (mem_fiber L i), Ideal.argReduce_eq_reduce2, Host.reduce2_eq_foldl_fiber, hf, hx, hy]

theorem constant_negInf (k : S_.Idx) : constant (F := Ideal) S_ .f32 0xFF800000#32 k = (⊥ : EReal) := by
  pointwise
  exact negInf

theorem place_eq (L : S4096x512.Idx → EReal) : place L = fun j =>
    (Host.argReduce (reducer_argmax_f32_i32 (F := Ideal)) L (iotaInDim S4096x512 32 1) (constant (F := Ideal) S_ .f32 0xFF800000#32) (constantI S_ 32 0#32)
      reducesTo_S4096x512_S4096_d1 h_S_ j).2 := rfl

theorem place_apply (L : S4096x512.Idx → EReal) (i : Fin 4096) :
    place L (ix1 i) = BitVec.ofNat 32 (firstMax fun v => L (ix2 i v)).val :=
  (congrFun (place_eq L) (ix1 i)).trans (fold_apply L i _ reducer_eq _ _ constant_negInf (fun _ => rfl))

end Cert.Proof.Ref

end
-- ==== Proof.RefValues.lean ====
/-
  The reference's two results over the extended reals, in the terms of Spec.
-/
module

public import proofs.«01_k».proof.Proof.RefPlace

@[expose] public section

noncomputable section

namespace Cert.Proof.Ref

open Cert.ReferenceIdeal Cert.ReferenceIdeal.Gen Cert.Proof.Value
open Idealize.ShloMosaic

set_option maxRecDepth 16384

variable (X : S1x2048x4096.Idx → EReal) (W : S1024x4096.Idx → EReal) (B : S1024.Idx → EReal) (C : S1x1024x64.Idx → EReal)

/-- Row `2n + g` of the logits is position `n`'s, group `g`'s. -/
theorem lg_apply (i : Fin 4096) (n : Fin 2048) (g : Fin 2) (h : i.val = 2 * n.val + g.val) (v : Fin 512) :
    lg X W B (ix2 i v) = logits X W B n g v := by
  have hg := g.isLt
  have e : lg X W B (ix2 i v) = logits X W B ⟨i.val / 2, by omega⟩ ⟨i.val % 2, by omega⟩ v := by
    pointwise [lg]
    have hv : (⟨i.val % 2 * 512 + v.val, by omega⟩ : Fin 1024) = entry ⟨i.val % 2, by omega⟩ v :=
      Fin.ext (by show i.val % 2 * 512 + v.val = 512 * (i.val % 2) + v.val; omega)
    unfold logits
    exact congrArg₂ (· + ·) (Finset.sum_congr rfl fun k _ => congrArg (fun q => X (ix3 0 ⟨i.val / 2, by omega⟩ k) * W (ix2 q k)) hv)
      (congrArg (fun q => B (ix1 q)) hv)
  rw [e, show (⟨i.val / 2, by omega⟩ : Fin 2048) = n from Fin.ext (by show i.val / 2 = n.val; omega),
    show (⟨i.val % 2, by omega⟩ : Fin 2) = g from Fin.ext (by show i.val % 2 = g.val; omega)]

theorem hot_apply (I : S4096.Idx → BitVec 32) (i : Fin 4096) (v : Fin 512) :
    hot I (ix2 i v) = if I (ix1 i) = BitVec.ofNat 32 v.val then 1 else 0 := by
  pointwise [hot]
  by_cases h : I (ix1 i) = BitVec.ofNat 32 v.val
  · rw [if_pos h, h]
    have : IntOp.cmpi .eq (BitVec.ofNat 32 v.val) (BitVec.ofNat 32 v.val) = 1#1 := by simp [IntOp.cmpi]
    rw [this]
    show (((1#1 : BitVec 1).toNat : ℝ) : EReal) = 1
    simp
  · rw [if_neg h]
    have : IntOp.cmpi .eq (I (ix1 i)) (BitVec.ofNat 32 v.val) = 0#1 := by
      show BitVec.ofBool (I (ix1 i) == BitVec.ofNat 32 v.val) = 0#1
      rw [beq_false_of_ne h]
      rfl
    rw [this]
    show (((0#1 : BitVec 1).toNat : ℝ) : EReal) = 0
    simp

/-- The one-hot words of position `n`, group `g`. -/
theorem hot_row (i : Fin 4096) (n : Fin 2048) (g : Fin 2) (h : i.val = 2 * n.val + g.val) (v : Fin 512) :
    hot (place (lg X W B)) (ix2 i v) = if v = code X W B n g then 1 else 0 := by
  rw [hot_apply, place_apply, show (fun v => lg X W B (ix2 i v)) = logits X W B n g from funext fun v => lg_apply X W B i n g h v]
  have h1 := v.isLt
  have h2 := (code X W B n g).isLt
  refine if_congr (Iff.trans ?_ (Fin.ext_iff (a := v) (b := code X W B n g)).symm) rfl rfl
  show BitVec.ofNat 32 (code X W B n g).val = BitVec.ofNat 32 v.val ↔ _
  constructor
  · intro e
    have := congrArg BitVec.toNat e
    simp only [BitVec.toNat_ofNat] at this
    omega
  · intro e
    rw [e]

theorem quant_apply (H : S4096x512.Idx → EReal) (u : Fin 1) (n : Fin 2048) (e : Fin 128) :
    quant H C (ix3 u n e) = ∑ x : Fin 512, H (ix2 ⟨n.val * 2 + (e.val / 64 * 512 + x.val) / 512, by omega⟩ x)
      * C (ix3 0 ⟨e.val / 64 * 512 + x.val, by omega⟩ ⟨e.val % 64, by omega⟩) := by
  pointwise [quant]

/-- The reference's first result. -/
theorem quant_eq : quant (hot (place (lg X W B))) C = quantized X W B C := by
  funext j
  idx_vars j
  rename' j0 => u, j1 => n, j2 => e
  have he := e.isLt
  rw [quant_apply]
  show _ = C (ix3 0 (entry ⟨e.val / 64, by omega⟩ (code X W B n ⟨e.val / 64, by omega⟩)) ⟨e.val % 64, by omega⟩)
  have hx : ∀ x : Fin 512, hot (place (lg X W B)) (ix2 ⟨n.val * 2 + (e.val / 64 * 512 + x.val) / 512, by omega⟩ x)
      = if x = code X W B n ⟨e.val / 64, by omega⟩ then 1 else 0 := fun x =>
    hot_row X W B _ n ⟨e.val / 64, by omega⟩ (by show n.val * 2 + (e.val / 64 * 512 + x.val) / 512 = 2 * n.val + e.val / 64; omega) x
  simp only [hx]
  rw [Finset.sum_eq_single (code X W B n ⟨e.val / 64, by omega⟩)]
  · rw [if_pos rfl, one_mul]
    congr 2
    exact Fin.ext (by show e.val / 64 * 512 + _ = 512 * (e.val / 64) + _; omega)
  · intro x _ hne
    rw [if_neg hne, zero_mul]
  · intro h
    exact absurd (Finset.mem_univ _) h

theorem expo_apply (L : S2048x2x512.Idx → EReal) (n : Fin 2048) (g : Fin 2) (v : Fin 512) :
    expo L (ix3 n g v) = Ideal.exp (L (ix3 n g v) - top fun u => L (ix3 n g u)) := by
  pointwise [expo]
  rw [negInf, max_eq_right bot_le]
  rfl

theorem softs_apply (L : S2048x2x512.Idx → EReal) (n : Fin 2048) (g : Fin 2) (v : Fin 512) :
    softs L (ix3 n g v) = soft (fun u => L (ix3 n g u)) v := by
  pointwise [softs]
  simp only [expo_apply]
  rfl

theorem cast_apply (L : S4096x512.Idx → EReal) (n : Fin 2048) (g : Fin 2) (v : Fin 512) :
    shapeCast S2048x2x512 L shapeCasts_S4096x512_S2048x2x512 (ix3 n g v) = L (ix2 ⟨2 * n.val + g.val, by omega⟩ v) := by
  pointwise
  congr 2
  exact Fin.ext (by show n.val * 2 + g.val = 2 * n.val + g.val; omega)

theorem mean_apply (L : S4096x512.Idx → EReal) (g : Fin 2) (v : Fin 512) :
    mean L (ix2 g v) = Ideal.div (∑ n : Fin 2048, softs (shapeCast S2048x2x512 L shapeCasts_S4096x512_S2048x2x512) (ix3 n g v)) (Ideal.ofBits .f32 0x45000000#32) := by
  pointwise [mean]

theorem softs_row (n : Fin 2048) (g : Fin 2) (v : Fin 512) :
    softs (shapeCast S2048x2x512 (lg X W B) shapeCasts_S4096x512_S2048x2x512) (ix3 n g v) = soft (logits X W B n g) v := by
  rw [softs_apply]
  simp only [cast_apply]
  rw [show (fun u => lg X W B (ix2 ⟨2 * n.val + g.val, by omega⟩ u)) = logits X W B n g from funext fun u => lg_apply X W B _ n g rfl u]

/-- The reference's second result. -/
theorem mean_eq : mean (lg X W B) = meanSoft X W B := by
  funext j
  idx_vars j
  rw [mean_apply, div_2048]
  simp only [softs_row]
  rfl

end Cert.Proof.Ref

end
-- ==== Proof.lean ====
/-
  The certificate: both programs' frames over the extended reals, and the equality of their two results. The kernel's
  run is `Value.kernel_run`, the reference's `Ref.run`; both give `Value.quantized` and `Value.meanSoft` of the arguments.
-/
module

public import proofs.«01_k».proof.Defs
public import proofs.«01_k».proof.Proof.Gen.Kernel
public import proofs.«01_k».proof.Proof.Gen.Reference
public import proofs.«01_k».proof.Proof.KernelRun
public import proofs.«01_k».proof.Proof.RefValues

@[expose] public section

noncomputable section

namespace Cert.Proof

open Idealize.ShloMosaic Idealize.SL.Sem

theorem frame_kernel : Cert.quiescent_KernelIdeal := fun m g _ =>
  (θ_run Cert.KernelIdeal.defs _ _).mono (fun _ h => ⟨fun c => (h.1 c).2.2, h.2⟩) (Value.kernel_run m g)

theorem frame_reference : Cert.quiescent_ReferenceIdeal := fun m g _ =>
  (θ_run Cert.ReferenceIdeal.defs _ _).mono (fun r h => ⟨fun c => (h c).2.2, sem_eq_zero_of_no_sems (by decide) r.2⟩) (Ref.run m g)

theorem algebraic : Cert.algebraic_KernelIdeal_ReferenceIdeal := by
  intro m g m' g' _ hagree
  refine ⟨fun c => Value.quantized (Value.argX m c) (Value.argW m c) (Value.argB m c) (Value.argC m c),
    fun c => Value.meanSoft (Value.argX m c) (Value.argW m c) (Value.argB m c),
    (θ_run Cert.KernelIdeal.defs _ _).mono (fun _ h => h.1) (Value.kernel_run m g),
    (θ_run Cert.ReferenceIdeal.defs _ _).mono (fun r h c => ?_) (Ref.run m' g')⟩
  obtain ⟨h0, h1, h2⟩ := h c
  obtain ⟨a0, a1, a2, a3⟩ := hagree c
  refine ⟨h0.trans ?_, h1.trans ?_, h2⟩
  · rw [a0, a1, a2, a3]
    exact Ref.quant_eq _ _ _ _
  · rw [a0, a1, a2]
    exact Ref.mean_eq _ _ _

theorem claim : Cert.Claim :=
  ⟨Cert.Kernel.Gen.facts, Cert.Reference.Gen.facts, Cert.KernelIdeal.Gen.facts, Cert.ReferenceIdeal.Gen.facts,
    frame_kernel, frame_reference, algebraic⟩

end Cert.Proof

end
